-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x224x224 : Shape := ⟨4, ![2, 768, 224, 224]⟩
abbrev S384 : Shape := ⟨1, ![384]⟩
abbrev S12288x6272 : Shape := ⟨2, ![12288, 6272]⟩
abbrev S_ : Shape := ⟨0, ![]⟩
abbrev S16 : Shape := ⟨1, ![16]⟩
abbrev S32x6272 : Shape := ⟨2, ![32, 6272]⟩

abbrev nBuf : Table → Nat
  | .hbm => 5
  | .local .scVector .vmem => 1
  | _ => 0

abbrev bufTy : (tb : Table) → Fin (nBuf tb) → BufTy
  | .hbm, ⟨0, _⟩ => ⟨S2x768x224x224, .f32⟩
  | .hbm, ⟨1, _⟩ => ⟨S384, .i32⟩
  | .hbm, ⟨2, _⟩ => ⟨S12288x6272, .f32⟩
  | .hbm, ⟨3, _⟩ => ⟨S12288x6272, .f32⟩
  | .hbm, ⟨4, _⟩ => ⟨S2x768x224x224, .f32⟩
  | .local .scVector .vmem, ⟨0, _⟩ => ⟨S384, .i32⟩
  | _, _ => ⟨S2x768x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_c_scv : Ref sig .scVector := ⟨.hbm, 1, rfl⟩
abbrev main_v1_scv : Ref sig .scVector := ⟨.hbm, 3, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32 : BitVec 32 := 0#32
  let v4 : BitVec 32 := Scalar.addi v2 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c16_i32 : BitVec 32 := 16#32
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let c16_i32_5 : BitVec 32 := 16#32
  let v22 : BitVec 32 := Scalar.muli v21 c16_i32_5
  v22
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32 : BitVec 32 := 0#32
  let v4 : BitVec 32 := Scalar.addi v2 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c16_i32 : BitVec 32 := 16#32
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let c16_i32_5 : BitVec 32 := 16#32
  let v22 : BitVec 32 := Scalar.muli v21 c16_i32_5
  let v23 : BitVec 32 := v22
  let v24 : Index := Scalar.indexCast v23
  ![v24.toNat]
def k0_mult2 (v36 : BitVec 32) : BitVec 32 :=
  v36

def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_7 : BitVec 32 := 1#32
  let v38 : BitVec 32 := Scalar.addi v2 c1_i32_7
  let c0_i32_9 : BitVec 32 := 0#32
  let v40 : BitVec 1 := Scalar.cmpi .sgt v38 c0_i32_9
  let v41 : BitVec 32 := Scalar.extui v40
  let c0_i32_10 : BitVec 32 := 0#32
  let v42 : BitVec 1 := Scalar.cmpi .slt v38 c0_i32_10
  let v43 : BitVec 32 := Scalar.extui v42
  let v44 : BitVec 32 := Scalar.subi v41 v43
  let c16_i32_8 : BitVec 32 := 16#32
  let c0_i32_11 : BitVec 32 := 0#32
  let v45 : BitVec 1 := Scalar.cmpi .sgt c16_i32_8 c0_i32_11
  let v46 : BitVec 32 := Scalar.extui v45
  let c0_i32_12 : BitVec 32 := 0#32
  let v47 : BitVec 1 := Scalar.cmpi .slt c16_i32_8 c0_i32_12
  let v48 : BitVec 32 := Scalar.extui v47
  let v49 : BitVec 32 := Scalar.subi v46 v48
  let v50 : BitVec 1 := Scalar.cmpi .ne v44 v49
  let v51 : BitVec 32 := Scalar.remsi v38 c16_i32_8
  let c0_i32_13 : BitVec 32 := 0#32
  let v52 : BitVec 1 := Scalar.cmpi .ne v51 c0_i32_13
  let v53 : BitVec 1 := Scalar.andi v50 v52
  let v39 : BitVec 32 := Scalar.divsi v38 c16_i32_8
  let c1_i32_14 : BitVec 32 := 1#32
  let v54 : BitVec 32 := Scalar.subi v39 c1_i32_14
  let v55 : BitVec 32 := Scalar.select v53 v54 v39
  let c16_i32_15 : BitVec 32 := 16#32
  let v56 : BitVec 32 := Scalar.muli v55 c16_i32_15
  v56
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32_7 : BitVec 32 := 1#32
  let v38 : BitVec 32 := Scalar.addi v2 c1_i32_7
  let c0_i32_9 : BitVec 32 := 0#32
  let v40 : BitVec 1 := Scalar.cmpi .sgt v38 c0_i32_9
  let v41 : BitVec 32 := Scalar.extui v40
  let c0_i32_10 : BitVec 32 := 0#32
  let v42 : BitVec 1 := Scalar.cmpi .slt v38 c0_i32_10
  let v43 : BitVec 32 := Scalar.extui v42
  let v44 : BitVec 32 := Scalar.subi v41 v43
  let c16_i32_8 : BitVec 32 := 16#32
  let c0_i32_11 : BitVec 32 := 0#32
  let v45 : BitVec 1 := Scalar.cmpi .sgt c16_i32_8 c0_i32_11
  let v46 : BitVec 32 := Scalar.extui v45
  let c0_i32_12 : BitVec 32 := 0#32
  let v47 : BitVec 1 := Scalar.cmpi .slt c16_i32_8 c0_i32_12
  let v48 : BitVec 32 := Scalar.extui v47
  let v49 : BitVec 32 := Scalar.subi v46 v48
  let v50 : BitVec 1 := Scalar.cmpi .ne v44 v49
  let v51 : BitVec 32 := Scalar.remsi v38 c16_i32_8
  let c0_i32_13 : BitVec 32 := 0#32
  let v52 : BitVec 1 := Scalar.cmpi .ne v51 c0_i32_13
  let v53 : BitVec 1 := Scalar.andi v50 v52
  let v39 : BitVec 32 := Scalar.divsi v38 c16_i32_8
  let c1_i32_14 : BitVec 32 := 1#32
  let v54 : BitVec 32 := Scalar.subi v39 c1_i32_14
  let v55 : BitVec 32 := Scalar.select v53 v54 v39
  let c16_i32_15 : BitVec 32 := 16#32
  let v56 : BitVec 32 := Scalar.muli v55 c16_i32_15
  let v57 : BitVec 32 := v56
  let v58 : Index := Scalar.indexCast v57
  ![v58.toNat]
def k0_mult4 (v70 : BitVec 32) : BitVec 32 :=
  v70

def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c2_i32_19 : BitVec 32 := 2#32
  let v72 : BitVec 32 := Scalar.addi v2 c2_i32_19
  let c0_i32_21 : BitVec 32 := 0#32
  let v74 : BitVec 1 := Scalar.cmpi .sgt v72 c0_i32_21
  let v75 : BitVec 32 := Scalar.extui v74
  let c0_i32_22 : BitVec 32 := 0#32
  let v76 : BitVec 1 := Scalar.cmpi .slt v72 c0_i32_22
  let v77 : BitVec 32 := Scalar.extui v76
  let v78 : BitVec 32 := Scalar.subi v75 v77
  let c16_i32_20 : BitVec 32 := 16#32
  let c0_i32_23 : BitVec 32 := 0#32
  let v79 : BitVec 1 := Scalar.cmpi .sgt c16_i32_20 c0_i32_23
  let v80 : BitVec 32 := Scalar.extui v79
  let c0_i32_24 : BitVec 32 := 0#32
  let v81 : BitVec 1 := Scalar.cmpi .slt c16_i32_20 c0_i32_24
  let v82 : BitVec 32 := Scalar.extui v81
  let v83 : BitVec 32 := Scalar.subi v80 v82
  let v84 : BitVec 1 := Scalar.cmpi .ne v78 v83
  let v85 : BitVec 32 := Scalar.remsi v72 c16_i32_20
  let c0_i32_25 : BitVec 32 := 0#32
  let v86 : BitVec 1 := Scalar.cmpi .ne v85 c0_i32_25
  let v87 : BitVec 1 := Scalar.andi v84 v86
  let v73 : BitVec 32 := Scalar.divsi v72 c16_i32_20
  let c1_i32_26 : BitVec 32 := 1#32
  let v88 : BitVec 32 := Scalar.subi v73 c1_i32_26
  let v89 : BitVec 32 := Scalar.select v87 v88 v73
  let c16_i32_27 : BitVec 32 := 16#32
  let v90 : BitVec 32 := Scalar.muli v89 c16_i32_27
  v90
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c2_i32_19 : BitVec 32 := 2#32
  let v72 : BitVec 32 := Scalar.addi v2 c2_i32_19
  let c0_i32_21 : BitVec 32 := 0#32
  let v74 : BitVec 1 := Scalar.cmpi .sgt v72 c0_i32_21
  let v75 : BitVec 32 := Scalar.extui v74
  let c0_i32_22 : BitVec 32 := 0#32
  let v76 : BitVec 1 := Scalar.cmpi .slt v72 c0_i32_22
  let v77 : BitVec 32 := Scalar.extui v76
  let v78 : BitVec 32 := Scalar.subi v75 v77
  let c16_i32_20 : BitVec 32 := 16#32
  let c0_i32_23 : BitVec 32 := 0#32
  let v79 : BitVec 1 := Scalar.cmpi .sgt c16_i32_20 c0_i32_23
  let v80 : BitVec 32 := Scalar.extui v79
  let c0_i32_24 : BitVec 32 := 0#32
  let v81 : BitVec 1 := Scalar.cmpi .slt c16_i32_20 c0_i32_24
  let v82 : BitVec 32 := Scalar.extui v81
  let v83 : BitVec 32 := Scalar.subi v80 v82
  let v84 : BitVec 1 := Scalar.cmpi .ne v78 v83
  let v85 : BitVec 32 := Scalar.remsi v72 c16_i32_20
  let c0_i32_25 : BitVec 32 := 0#32
  let v86 : BitVec 1 := Scalar.cmpi .ne v85 c0_i32_25
  let v87 : BitVec 1 := Scalar.andi v84 v86
  let v73 : BitVec 32 := Scalar.divsi v72 c16_i32_20
  let c1_i32_26 : BitVec 32 := 1#32
  let v88 : BitVec 32 := Scalar.subi v73 c1_i32_26
  let v89 : BitVec 32 := Scalar.select v87 v88 v73
  let c16_i32_27 : BitVec 32 := 16#32
  let v90 : BitVec 32 := Scalar.muli v89 c16_i32_27
  let v91 : BitVec 32 := v90
  let v92 : Index := Scalar.indexCast v91
  ![v92.toNat]
def k0_mult6 (v104 : BitVec 32) : BitVec 32 :=
  v104

def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c3_i32 : BitVec 32 := 3#32
  let v106 : BitVec 32 := Scalar.addi v2 c3_i32
  let c0_i32_32 : BitVec 32 := 0#32
  let v108 : BitVec 1 := Scalar.cmpi .sgt v106 c0_i32_32
  let v109 : BitVec 32 := Scalar.extui v108
  let c0_i32_33 : BitVec 32 := 0#32
  let v110 : BitVec 1 := Scalar.cmpi .slt v106 c0_i32_33
  let v111 : BitVec 32 := Scalar.extui v110
  let v112 : BitVec 32 := Scalar.subi v109 v111
  let c16_i32_31 : BitVec 32 := 16#32
  let c0_i32_34 : BitVec 32 := 0#32
  let v113 : BitVec 1 := Scalar.cmpi .sgt c16_i32_31 c0_i32_34
  let v114 : BitVec 32 := Scalar.extui v113
  let c0_i32_35 : BitVec 32 := 0#32
  let v115 : BitVec 1 := Scalar.cmpi .slt c16_i32_31 c0_i32_35
  let v116 : BitVec 32 := Scalar.extui v115
  let v117 : BitVec 32 := Scalar.subi v114 v116
  let v118 : BitVec 1 := Scalar.cmpi .ne v112 v117
  let v119 : BitVec 32 := Scalar.remsi v106 c16_i32_31
  let c0_i32_36 : BitVec 32 := 0#32
  let v120 : BitVec 1 := Scalar.cmpi .ne v119 c0_i32_36
  let v121 : BitVec 1 := Scalar.andi v118 v120
  let v107 : BitVec 32 := Scalar.divsi v106 c16_i32_31
  let c1_i32_37 : BitVec 32 := 1#32
  let v122 : BitVec 32 := Scalar.subi v107 c1_i32_37
  let v123 : BitVec 32 := Scalar.select v121 v122 v107
  let c16_i32_38 : BitVec 32 := 16#32
  let v124 : BitVec 32 := Scalar.muli v123 c16_i32_38
  v124
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c3_i32 : BitVec 32 := 3#32
  let v106 : BitVec 32 := Scalar.addi v2 c3_i32
  let c0_i32_32 : BitVec 32 := 0#32
  let v108 : BitVec 1 := Scalar.cmpi .sgt v106 c0_i32_32
  let v109 : BitVec 32 := Scalar.extui v108
  let c0_i32_33 : BitVec 32 := 0#32
  let v110 : BitVec 1 := Scalar.cmpi .slt v106 c0_i32_33
  let v111 : BitVec 32 := Scalar.extui v110
  let v112 : BitVec 32 := Scalar.subi v109 v111
  let c16_i32_31 : BitVec 32 := 16#32
  let c0_i32_34 : BitVec 32 := 0#32
  let v113 : BitVec 1 := Scalar.cmpi .sgt c16_i32_31 c0_i32_34
  let v114 : BitVec 32 := Scalar.extui v113
  let c0_i32_35 : BitVec 32 := 0#32
  let v115 : BitVec 1 := Scalar.cmpi .slt c16_i32_31 c0_i32_35
  let v116 : BitVec 32 := Scalar.extui v115
  let v117 : BitVec 32 := Scalar.subi v114 v116
  let v118 : BitVec 1 := Scalar.cmpi .ne v112 v117
  let v119 : BitVec 32 := Scalar.remsi v106 c16_i32_31
  let c0_i32_36 : BitVec 32 := 0#32
  let v120 : BitVec 1 := Scalar.cmpi .ne v119 c0_i32_36
  let v121 : BitVec 1 := Scalar.andi v118 v120
  let v107 : BitVec 32 := Scalar.divsi v106 c16_i32_31
  let c1_i32_37 : BitVec 32 := 1#32
  let v122 : BitVec 32 := Scalar.subi v107 c1_i32_37
  let v123 : BitVec 32 := Scalar.select v121 v122 v107
  let c16_i32_38 : BitVec 32 := 16#32
  let v124 : BitVec 32 := Scalar.muli v123 c16_i32_38
  let v125 : BitVec 32 := v124
  let v126 : Index := Scalar.indexCast v125
  ![v126.toNat]
def k0_mult8 (v138 : BitVec 32) : BitVec 32 :=
  v138

def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c4_i32 : BitVec 32 := 4#32
  let v140 : BitVec 32 := Scalar.addi v2 c4_i32
  let c0_i32_43 : BitVec 32 := 0#32
  let v142 : BitVec 1 := Scalar.cmpi .sgt v140 c0_i32_43
  let v143 : BitVec 32 := Scalar.extui v142
  let c0_i32_44 : BitVec 32 := 0#32
  let v144 : BitVec 1 := Scalar.cmpi .slt v140 c0_i32_44
  let v145 : BitVec 32 := Scalar.extui v144
  let v146 : BitVec 32 := Scalar.subi v143 v145
  let c16_i32_42 : BitVec 32 := 16#32
  let c0_i32_45 : BitVec 32 := 0#32
  let v147 : BitVec 1 := Scalar.cmpi .sgt c16_i32_42 c0_i32_45
  let v148 : BitVec 32 := Scalar.extui v147
  let c0_i32_46 : BitVec 32 := 0#32
  let v149 : BitVec 1 := Scalar.cmpi .slt c16_i32_42 c0_i32_46
  let v150 : BitVec 32 := Scalar.extui v149
  let v151 : BitVec 32 := Scalar.subi v148 v150
  let v152 : BitVec 1 := Scalar.cmpi .ne v146 v151
  let v153 : BitVec 32 := Scalar.remsi v140 c16_i32_42
  let c0_i32_47 : BitVec 32 := 0#32
  let v154 : BitVec 1 := Scalar.cmpi .ne v153 c0_i32_47
  let v155 : BitVec 1 := Scalar.andi v152 v154
  let v141 : BitVec 32 := Scalar.divsi v140 c16_i32_42
  let c1_i32_48 : BitVec 32 := 1#32
  let v156 : BitVec 32 := Scalar.subi v141 c1_i32_48
  let v157 : BitVec 32 := Scalar.select v155 v156 v141
  let c16_i32_49 : BitVec 32 := 16#32
  let v158 : BitVec 32 := Scalar.muli v157 c16_i32_49
  v158
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c4_i32 : BitVec 32 := 4#32
  let v140 : BitVec 32 := Scalar.addi v2 c4_i32
  let c0_i32_43 : BitVec 32 := 0#32
  let v142 : BitVec 1 := Scalar.cmpi .sgt v140 c0_i32_43
  let v143 : BitVec 32 := Scalar.extui v142
  let c0_i32_44 : BitVec 32 := 0#32
  let v144 : BitVec 1 := Scalar.cmpi .slt v140 c0_i32_44
  let v145 : BitVec 32 := Scalar.extui v144
  let v146 : BitVec 32 := Scalar.subi v143 v145
  let c16_i32_42 : BitVec 32 := 16#32
  let c0_i32_45 : BitVec 32 := 0#32
  let v147 : BitVec 1 := Scalar.cmpi .sgt c16_i32_42 c0_i32_45
  let v148 : BitVec 32 := Scalar.extui v147
  let c0_i32_46 : BitVec 32 := 0#32
  let v149 : BitVec 1 := Scalar.cmpi .slt c16_i32_42 c0_i32_46
  let v150 : BitVec 32 := Scalar.extui v149
  let v151 : BitVec 32 := Scalar.subi v148 v150
  let v152 : BitVec 1 := Scalar.cmpi .ne v146 v151
  let v153 : BitVec 32 := Scalar.remsi v140 c16_i32_42
  let c0_i32_47 : BitVec 32 := 0#32
  let v154 : BitVec 1 := Scalar.cmpi .ne v153 c0_i32_47
  let v155 : BitVec 1 := Scalar.andi v152 v154
  let v141 : BitVec 32 := Scalar.divsi v140 c16_i32_42
  let c1_i32_48 : BitVec 32 := 1#32
  let v156 : BitVec 32 := Scalar.subi v141 c1_i32_48
  let v157 : BitVec 32 := Scalar.select v155 v156 v141
  let c16_i32_49 : BitVec 32 := 16#32
  let v158 : BitVec 32 := Scalar.muli v157 c16_i32_49
  let v159 : BitVec 32 := v158
  let v160 : Index := Scalar.indexCast v159
  ![v160.toNat]
def k0_mult10 (v172 : BitVec 32) : BitVec 32 :=
  v172

def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c5_i32 : BitVec 32 := 5#32
  let v174 : BitVec 32 := Scalar.addi v2 c5_i32
  let c0_i32_54 : BitVec 32 := 0#32
  let v176 : BitVec 1 := Scalar.cmpi .sgt v174 c0_i32_54
  let v177 : BitVec 32 := Scalar.extui v176
  let c0_i32_55 : BitVec 32 := 0#32
  let v178 : BitVec 1 := Scalar.cmpi .slt v174 c0_i32_55
  let v179 : BitVec 32 := Scalar.extui v178
  let v180 : BitVec 32 := Scalar.subi v177 v179
  let c16_i32_53 : BitVec 32 := 16#32
  let c0_i32_56 : BitVec 32 := 0#32
  let v181 : BitVec 1 := Scalar.cmpi .sgt c16_i32_53 c0_i32_56
  let v182 : BitVec 32 := Scalar.extui v181
  let c0_i32_57 : BitVec 32 := 0#32
  let v183 : BitVec 1 := Scalar.cmpi .slt c16_i32_53 c0_i32_57
  let v184 : BitVec 32 := Scalar.extui v183
  let v185 : BitVec 32 := Scalar.subi v182 v184
  let v186 : BitVec 1 := Scalar.cmpi .ne v180 v185
  let v187 : BitVec 32 := Scalar.remsi v174 c16_i32_53
  let c0_i32_58 : BitVec 32 := 0#32
  let v188 : BitVec 1 := Scalar.cmpi .ne v187 c0_i32_58
  let v189 : BitVec 1 := Scalar.andi v186 v188
  let v175 : BitVec 32 := Scalar.divsi v174 c16_i32_53
  let c1_i32_59 : BitVec 32 := 1#32
  let v190 : BitVec 32 := Scalar.subi v175 c1_i32_59
  let v191 : BitVec 32 := Scalar.select v189 v190 v175
  let c16_i32_60 : BitVec 32 := 16#32
  let v192 : BitVec 32 := Scalar.muli v191 c16_i32_60
  v192
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c5_i32 : BitVec 32 := 5#32
  let v174 : BitVec 32 := Scalar.addi v2 c5_i32
  let c0_i32_54 : BitVec 32 := 0#32
  let v176 : BitVec 1 := Scalar.cmpi .sgt v174 c0_i32_54
  let v177 : BitVec 32 := Scalar.extui v176
  let c0_i32_55 : BitVec 32 := 0#32
  let v178 : BitVec 1 := Scalar.cmpi .slt v174 c0_i32_55
  let v179 : BitVec 32 := Scalar.extui v178
  let v180 : BitVec 32 := Scalar.subi v177 v179
  let c16_i32_53 : BitVec 32 := 16#32
  let c0_i32_56 : BitVec 32 := 0#32
  let v181 : BitVec 1 := Scalar.cmpi .sgt c16_i32_53 c0_i32_56
  let v182 : BitVec 32 := Scalar.extui v181
  let c0_i32_57 : BitVec 32 := 0#32
  let v183 : BitVec 1 := Scalar.cmpi .slt c16_i32_53 c0_i32_57
  let v184 : BitVec 32 := Scalar.extui v183
  let v185 : BitVec 32 := Scalar.subi v182 v184
  let v186 : BitVec 1 := Scalar.cmpi .ne v180 v185
  let v187 : BitVec 32 := Scalar.remsi v174 c16_i32_53
  let c0_i32_58 : BitVec 32 := 0#32
  let v188 : BitVec 1 := Scalar.cmpi .ne v187 c0_i32_58
  let v189 : BitVec 1 := Scalar.andi v186 v188
  let v175 : BitVec 32 := Scalar.divsi v174 c16_i32_53
  let c1_i32_59 : BitVec 32 := 1#32
  let v190 : BitVec 32 := Scalar.subi v175 c1_i32_59
  let v191 : BitVec 32 := Scalar.select v189 v190 v175
  let c16_i32_60 : BitVec 32 := 16#32
  let v192 : BitVec 32 := Scalar.muli v191 c16_i32_60
  let v193 : BitVec 32 := v192
  let v194 : Index := Scalar.indexCast v193
  ![v194.toNat]
def k0_mult12 (v206 : BitVec 32) : BitVec 32 :=
  v206

def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c6_i32 : BitVec 32 := 6#32
  let v208 : BitVec 32 := Scalar.addi v2 c6_i32
  let c0_i32_65 : BitVec 32 := 0#32
  let v210 : BitVec 1 := Scalar.cmpi .sgt v208 c0_i32_65
  let v211 : BitVec 32 := Scalar.extui v210
  let c0_i32_66 : BitVec 32 := 0#32
  let v212 : BitVec 1 := Scalar.cmpi .slt v208 c0_i32_66
  let v213 : BitVec 32 := Scalar.extui v212
  let v214 : BitVec 32 := Scalar.subi v211 v213
  let c16_i32_64 : BitVec 32 := 16#32
  let c0_i32_67 : BitVec 32 := 0#32
  let v215 : BitVec 1 := Scalar.cmpi .sgt c16_i32_64 c0_i32_67
  let v216 : BitVec 32 := Scalar.extui v215
  let c0_i32_68 : BitVec 32 := 0#32
  let v217 : BitVec 1 := Scalar.cmpi .slt c16_i32_64 c0_i32_68
  let v218 : BitVec 32 := Scalar.extui v217
  let v219 : BitVec 32 := Scalar.subi v216 v218
  let v220 : BitVec 1 := Scalar.cmpi .ne v214 v219
  let v221 : BitVec 32 := Scalar.remsi v208 c16_i32_64
  let c0_i32_69 : BitVec 32 := 0#32
  let v222 : BitVec 1 := Scalar.cmpi .ne v221 c0_i32_69
  let v223 : BitVec 1 := Scalar.andi v220 v222
  let v209 : BitVec 32 := Scalar.divsi v208 c16_i32_64
  let c1_i32_70 : BitVec 32 := 1#32
  let v224 : BitVec 32 := Scalar.subi v209 c1_i32_70
  let v225 : BitVec 32 := Scalar.select v223 v224 v209
  let c16_i32_71 : BitVec 32 := 16#32
  let v226 : BitVec 32 := Scalar.muli v225 c16_i32_71
  v226
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c6_i32 : BitVec 32 := 6#32
  let v208 : BitVec 32 := Scalar.addi v2 c6_i32
  let c0_i32_65 : BitVec 32 := 0#32
  let v210 : BitVec 1 := Scalar.cmpi .sgt v208 c0_i32_65
  let v211 : BitVec 32 := Scalar.extui v210
  let c0_i32_66 : BitVec 32 := 0#32
  let v212 : BitVec 1 := Scalar.cmpi .slt v208 c0_i32_66
  let v213 : BitVec 32 := Scalar.extui v212
  let v214 : BitVec 32 := Scalar.subi v211 v213
  let c16_i32_64 : BitVec 32 := 16#32
  let c0_i32_67 : BitVec 32 := 0#32
  let v215 : BitVec 1 := Scalar.cmpi .sgt c16_i32_64 c0_i32_67
  let v216 : BitVec 32 := Scalar.extui v215
  let c0_i32_68 : BitVec 32 := 0#32
  let v217 : BitVec 1 := Scalar.cmpi .slt c16_i32_64 c0_i32_68
  let v218 : BitVec 32 := Scalar.extui v217
  let v219 : BitVec 32 := Scalar.subi v216 v218
  let v220 : BitVec 1 := Scalar.cmpi .ne v214 v219
  let v221 : BitVec 32 := Scalar.remsi v208 c16_i32_64
  let c0_i32_69 : BitVec 32 := 0#32
  let v222 : BitVec 1 := Scalar.cmpi .ne v221 c0_i32_69
  let v223 : BitVec 1 := Scalar.andi v220 v222
  let v209 : BitVec 32 := Scalar.divsi v208 c16_i32_64
  let c1_i32_70 : BitVec 32 := 1#32
  let v224 : BitVec 32 := Scalar.subi v209 c1_i32_70
  let v225 : BitVec 32 := Scalar.select v223 v224 v209
  let c16_i32_71 : BitVec 32 := 16#32
  let v226 : BitVec 32 := Scalar.muli v225 c16_i32_71
  let v227 : BitVec 32 := v226
  let v228 : Index := Scalar.indexCast v227
  ![v228.toNat]
def k0_mult14 (v240 : BitVec 32) : BitVec 32 :=
  v240

def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c7_i32 : BitVec 32 := 7#32
  let v242 : BitVec 32 := Scalar.addi v2 c7_i32
  let c0_i32_76 : BitVec 32 := 0#32
  let v244 : BitVec 1 := Scalar.cmpi .sgt v242 c0_i32_76
  let v245 : BitVec 32 := Scalar.extui v244
  let c0_i32_77 : BitVec 32 := 0#32
  let v246 : BitVec 1 := Scalar.cmpi .slt v242 c0_i32_77
  let v247 : BitVec 32 := Scalar.extui v246
  let v248 : BitVec 32 := Scalar.subi v245 v247
  let c16_i32_75 : BitVec 32 := 16#32
  let c0_i32_78 : BitVec 32 := 0#32
  let v249 : BitVec 1 := Scalar.cmpi .sgt c16_i32_75 c0_i32_78
  let v250 : BitVec 32 := Scalar.extui v249
  let c0_i32_79 : BitVec 32 := 0#32
  let v251 : BitVec 1 := Scalar.cmpi .slt c16_i32_75 c0_i32_79
  let v252 : BitVec 32 := Scalar.extui v251
  let v253 : BitVec 32 := Scalar.subi v250 v252
  let v254 : BitVec 1 := Scalar.cmpi .ne v248 v253
  let v255 : BitVec 32 := Scalar.remsi v242 c16_i32_75
  let c0_i32_80 : BitVec 32 := 0#32
  let v256 : BitVec 1 := Scalar.cmpi .ne v255 c0_i32_80
  let v257 : BitVec 1 := Scalar.andi v254 v256
  let v243 : BitVec 32 := Scalar.divsi v242 c16_i32_75
  let c1_i32_81 : BitVec 32 := 1#32
  let v258 : BitVec 32 := Scalar.subi v243 c1_i32_81
  let v259 : BitVec 32 := Scalar.select v257 v258 v243
  let c16_i32_82 : BitVec 32 := 16#32
  let v260 : BitVec 32 := Scalar.muli v259 c16_i32_82
  v260
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c7_i32 : BitVec 32 := 7#32
  let v242 : BitVec 32 := Scalar.addi v2 c7_i32
  let c0_i32_76 : BitVec 32 := 0#32
  let v244 : BitVec 1 := Scalar.cmpi .sgt v242 c0_i32_76
  let v245 : BitVec 32 := Scalar.extui v244
  let c0_i32_77 : BitVec 32 := 0#32
  let v246 : BitVec 1 := Scalar.cmpi .slt v242 c0_i32_77
  let v247 : BitVec 32 := Scalar.extui v246
  let v248 : BitVec 32 := Scalar.subi v245 v247
  let c16_i32_75 : BitVec 32 := 16#32
  let c0_i32_78 : BitVec 32 := 0#32
  let v249 : BitVec 1 := Scalar.cmpi .sgt c16_i32_75 c0_i32_78
  let v250 : BitVec 32 := Scalar.extui v249
  let c0_i32_79 : BitVec 32 := 0#32
  let v251 : BitVec 1 := Scalar.cmpi .slt c16_i32_75 c0_i32_79
  let v252 : BitVec 32 := Scalar.extui v251
  let v253 : BitVec 32 := Scalar.subi v250 v252
  let v254 : BitVec 1 := Scalar.cmpi .ne v248 v253
  let v255 : BitVec 32 := Scalar.remsi v242 c16_i32_75
  let c0_i32_80 : BitVec 32 := 0#32
  let v256 : BitVec 1 := Scalar.cmpi .ne v255 c0_i32_80
  let v257 : BitVec 1 := Scalar.andi v254 v256
  let v243 : BitVec 32 := Scalar.divsi v242 c16_i32_75
  let c1_i32_81 : BitVec 32 := 1#32
  let v258 : BitVec 32 := Scalar.subi v243 c1_i32_81
  let v259 : BitVec 32 := Scalar.select v257 v258 v243
  let c16_i32_82 : BitVec 32 := 16#32
  let v260 : BitVec 32 := Scalar.muli v259 c16_i32_82
  let v261 : BitVec 32 := v260
  let v262 : Index := Scalar.indexCast v261
  ![v262.toNat]
def k0_mult16 (v274 : BitVec 32) : BitVec 32 :=
  v274

def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c8_i32 : BitVec 32 := 8#32
  let v276 : BitVec 32 := Scalar.addi v2 c8_i32
  let c0_i32_87 : BitVec 32 := 0#32
  let v278 : BitVec 1 := Scalar.cmpi .sgt v276 c0_i32_87
  let v279 : BitVec 32 := Scalar.extui v278
  let c0_i32_88 : BitVec 32 := 0#32
  let v280 : BitVec 1 := Scalar.cmpi .slt v276 c0_i32_88
  let v281 : BitVec 32 := Scalar.extui v280
  let v282 : BitVec 32 := Scalar.subi v279 v281
  let c16_i32_86 : BitVec 32 := 16#32
  let c0_i32_89 : BitVec 32 := 0#32
  let v283 : BitVec 1 := Scalar.cmpi .sgt c16_i32_86 c0_i32_89
  let v284 : BitVec 32 := Scalar.extui v283
  let c0_i32_90 : BitVec 32 := 0#32
  let v285 : BitVec 1 := Scalar.cmpi .slt c16_i32_86 c0_i32_90
  let v286 : BitVec 32 := Scalar.extui v285
  let v287 : BitVec 32 := Scalar.subi v284 v286
  let v288 : BitVec 1 := Scalar.cmpi .ne v282 v287
  let v289 : BitVec 32 := Scalar.remsi v276 c16_i32_86
  let c0_i32_91 : BitVec 32 := 0#32
  let v290 : BitVec 1 := Scalar.cmpi .ne v289 c0_i32_91
  let v291 : BitVec 1 := Scalar.andi v288 v290
  let v277 : BitVec 32 := Scalar.divsi v276 c16_i32_86
  let c1_i32_92 : BitVec 32 := 1#32
  let v292 : BitVec 32 := Scalar.subi v277 c1_i32_92
  let v293 : BitVec 32 := Scalar.select v291 v292 v277
  let c16_i32_93 : BitVec 32 := 16#32
  let v294 : BitVec 32 := Scalar.muli v293 c16_i32_93
  v294
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c8_i32 : BitVec 32 := 8#32
  let v276 : BitVec 32 := Scalar.addi v2 c8_i32
  let c0_i32_87 : BitVec 32 := 0#32
  let v278 : BitVec 1 := Scalar.cmpi .sgt v276 c0_i32_87
  let v279 : BitVec 32 := Scalar.extui v278
  let c0_i32_88 : BitVec 32 := 0#32
  let v280 : BitVec 1 := Scalar.cmpi .slt v276 c0_i32_88
  let v281 : BitVec 32 := Scalar.extui v280
  let v282 : BitVec 32 := Scalar.subi v279 v281
  let c16_i32_86 : BitVec 32 := 16#32
  let c0_i32_89 : BitVec 32 := 0#32
  let v283 : BitVec 1 := Scalar.cmpi .sgt c16_i32_86 c0_i32_89
  let v284 : BitVec 32 := Scalar.extui v283
  let c0_i32_90 : BitVec 32 := 0#32
  let v285 : BitVec 1 := Scalar.cmpi .slt c16_i32_86 c0_i32_90
  let v286 : BitVec 32 := Scalar.extui v285
  let v287 : BitVec 32 := Scalar.subi v284 v286
  let v288 : BitVec 1 := Scalar.cmpi .ne v282 v287
  let v289 : BitVec 32 := Scalar.remsi v276 c16_i32_86
  let c0_i32_91 : BitVec 32 := 0#32
  let v290 : BitVec 1 := Scalar.cmpi .ne v289 c0_i32_91
  let v291 : BitVec 1 := Scalar.andi v288 v290
  let v277 : BitVec 32 := Scalar.divsi v276 c16_i32_86
  let c1_i32_92 : BitVec 32 := 1#32
  let v292 : BitVec 32 := Scalar.subi v277 c1_i32_92
  let v293 : BitVec 32 := Scalar.select v291 v292 v277
  let c16_i32_93 : BitVec 32 := 16#32
  let v294 : BitVec 32 := Scalar.muli v293 c16_i32_93
  let v295 : BitVec 32 := v294
  let v296 : Index := Scalar.indexCast v295
  ![v296.toNat]
def k0_mult18 (v308 : BitVec 32) : BitVec 32 :=
  v308

def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c9_i32 : BitVec 32 := 9#32
  let v310 : BitVec 32 := Scalar.addi v2 c9_i32
  let c0_i32_98 : BitVec 32 := 0#32
  let v312 : BitVec 1 := Scalar.cmpi .sgt v310 c0_i32_98
  let v313 : BitVec 32 := Scalar.extui v312
  let c0_i32_99 : BitVec 32 := 0#32
  let v314 : BitVec 1 := Scalar.cmpi .slt v310 c0_i32_99
  let v315 : BitVec 32 := Scalar.extui v314
  let v316 : BitVec 32 := Scalar.subi v313 v315
  let c16_i32_97 : BitVec 32 := 16#32
  let c0_i32_100 : BitVec 32 := 0#32
  let v317 : BitVec 1 := Scalar.cmpi .sgt c16_i32_97 c0_i32_100
  let v318 : BitVec 32 := Scalar.extui v317
  let c0_i32_101 : BitVec 32 := 0#32
  let v319 : BitVec 1 := Scalar.cmpi .slt c16_i32_97 c0_i32_101
  let v320 : BitVec 32 := Scalar.extui v319
  let v321 : BitVec 32 := Scalar.subi v318 v320
  let v322 : BitVec 1 := Scalar.cmpi .ne v316 v321
  let v323 : BitVec 32 := Scalar.remsi v310 c16_i32_97
  let c0_i32_102 : BitVec 32 := 0#32
  let v324 : BitVec 1 := Scalar.cmpi .ne v323 c0_i32_102
  let v325 : BitVec 1 := Scalar.andi v322 v324
  let v311 : BitVec 32 := Scalar.divsi v310 c16_i32_97
  let c1_i32_103 : BitVec 32 := 1#32
  let v326 : BitVec 32 := Scalar.subi v311 c1_i32_103
  let v327 : BitVec 32 := Scalar.select v325 v326 v311
  let c16_i32_104 : BitVec 32 := 16#32
  let v328 : BitVec 32 := Scalar.muli v327 c16_i32_104
  v328
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c9_i32 : BitVec 32 := 9#32
  let v310 : BitVec 32 := Scalar.addi v2 c9_i32
  let c0_i32_98 : BitVec 32 := 0#32
  let v312 : BitVec 1 := Scalar.cmpi .sgt v310 c0_i32_98
  let v313 : BitVec 32 := Scalar.extui v312
  let c0_i32_99 : BitVec 32 := 0#32
  let v314 : BitVec 1 := Scalar.cmpi .slt v310 c0_i32_99
  let v315 : BitVec 32 := Scalar.extui v314
  let v316 : BitVec 32 := Scalar.subi v313 v315
  let c16_i32_97 : BitVec 32 := 16#32
  let c0_i32_100 : BitVec 32 := 0#32
  let v317 : BitVec 1 := Scalar.cmpi .sgt c16_i32_97 c0_i32_100
  let v318 : BitVec 32 := Scalar.extui v317
  let c0_i32_101 : BitVec 32 := 0#32
  let v319 : BitVec 1 := Scalar.cmpi .slt c16_i32_97 c0_i32_101
  let v320 : BitVec 32 := Scalar.extui v319
  let v321 : BitVec 32 := Scalar.subi v318 v320
  let v322 : BitVec 1 := Scalar.cmpi .ne v316 v321
  let v323 : BitVec 32 := Scalar.remsi v310 c16_i32_97
  let c0_i32_102 : BitVec 32 := 0#32
  let v324 : BitVec 1 := Scalar.cmpi .ne v323 c0_i32_102
  let v325 : BitVec 1 := Scalar.andi v322 v324
  let v311 : BitVec 32 := Scalar.divsi v310 c16_i32_97
  let c1_i32_103 : BitVec 32 := 1#32
  let v326 : BitVec 32 := Scalar.subi v311 c1_i32_103
  let v327 : BitVec 32 := Scalar.select v325 v326 v311
  let c16_i32_104 : BitVec 32 := 16#32
  let v328 : BitVec 32 := Scalar.muli v327 c16_i32_104
  let v329 : BitVec 32 := v328
  let v330 : Index := Scalar.indexCast v329
  ![v330.toNat]
def k0_mult20 (v342 : BitVec 32) : BitVec 32 :=
  v342

def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c10_i32 : BitVec 32 := 10#32
  let v344 : BitVec 32 := Scalar.addi v2 c10_i32
  let c0_i32_109 : BitVec 32 := 0#32
  let v346 : BitVec 1 := Scalar.cmpi .sgt v344 c0_i32_109
  let v347 : BitVec 32 := Scalar.extui v346
  let c0_i32_110 : BitVec 32 := 0#32
  let v348 : BitVec 1 := Scalar.cmpi .slt v344 c0_i32_110
  let v349 : BitVec 32 := Scalar.extui v348
  let v350 : BitVec 32 := Scalar.subi v347 v349
  let c16_i32_108 : BitVec 32 := 16#32
  let c0_i32_111 : BitVec 32 := 0#32
  let v351 : BitVec 1 := Scalar.cmpi .sgt c16_i32_108 c0_i32_111
  let v352 : BitVec 32 := Scalar.extui v351
  let c0_i32_112 : BitVec 32 := 0#32
  let v353 : BitVec 1 := Scalar.cmpi .slt c16_i32_108 c0_i32_112
  let v354 : BitVec 32 := Scalar.extui v353
  let v355 : BitVec 32 := Scalar.subi v352 v354
  let v356 : BitVec 1 := Scalar.cmpi .ne v350 v355
  let v357 : BitVec 32 := Scalar.remsi v344 c16_i32_108
  let c0_i32_113 : BitVec 32 := 0#32
  let v358 : BitVec 1 := Scalar.cmpi .ne v357 c0_i32_113
  let v359 : BitVec 1 := Scalar.andi v356 v358
  let v345 : BitVec 32 := Scalar.divsi v344 c16_i32_108
  let c1_i32_114 : BitVec 32 := 1#32
  let v360 : BitVec 32 := Scalar.subi v345 c1_i32_114
  let v361 : BitVec 32 := Scalar.select v359 v360 v345
  let c16_i32_115 : BitVec 32 := 16#32
  let v362 : BitVec 32 := Scalar.muli v361 c16_i32_115
  v362
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c10_i32 : BitVec 32 := 10#32
  let v344 : BitVec 32 := Scalar.addi v2 c10_i32
  let c0_i32_109 : BitVec 32 := 0#32
  let v346 : BitVec 1 := Scalar.cmpi .sgt v344 c0_i32_109
  let v347 : BitVec 32 := Scalar.extui v346
  let c0_i32_110 : BitVec 32 := 0#32
  let v348 : BitVec 1 := Scalar.cmpi .slt v344 c0_i32_110
  let v349 : BitVec 32 := Scalar.extui v348
  let v350 : BitVec 32 := Scalar.subi v347 v349
  let c16_i32_108 : BitVec 32 := 16#32
  let c0_i32_111 : BitVec 32 := 0#32
  let v351 : BitVec 1 := Scalar.cmpi .sgt c16_i32_108 c0_i32_111
  let v352 : BitVec 32 := Scalar.extui v351
  let c0_i32_112 : BitVec 32 := 0#32
  let v353 : BitVec 1 := Scalar.cmpi .slt c16_i32_108 c0_i32_112
  let v354 : BitVec 32 := Scalar.extui v353
  let v355 : BitVec 32 := Scalar.subi v352 v354
  let v356 : BitVec 1 := Scalar.cmpi .ne v350 v355
  let v357 : BitVec 32 := Scalar.remsi v344 c16_i32_108
  let c0_i32_113 : BitVec 32 := 0#32
  let v358 : BitVec 1 := Scalar.cmpi .ne v357 c0_i32_113
  let v359 : BitVec 1 := Scalar.andi v356 v358
  let v345 : BitVec 32 := Scalar.divsi v344 c16_i32_108
  let c1_i32_114 : BitVec 32 := 1#32
  let v360 : BitVec 32 := Scalar.subi v345 c1_i32_114
  let v361 : BitVec 32 := Scalar.select v359 v360 v345
  let c16_i32_115 : BitVec 32 := 16#32
  let v362 : BitVec 32 := Scalar.muli v361 c16_i32_115
  let v363 : BitVec 32 := v362
  let v364 : Index := Scalar.indexCast v363
  ![v364.toNat]
def k0_mult22 (v376 : BitVec 32) : BitVec 32 :=
  v376

def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32 : BitVec 32 := 11#32
  let v378 : BitVec 32 := Scalar.addi v2 c11_i32
  let c0_i32_120 : BitVec 32 := 0#32
  let v380 : BitVec 1 := Scalar.cmpi .sgt v378 c0_i32_120
  let v381 : BitVec 32 := Scalar.extui v380
  let c0_i32_121 : BitVec 32 := 0#32
  let v382 : BitVec 1 := Scalar.cmpi .slt v378 c0_i32_121
  let v383 : BitVec 32 := Scalar.extui v382
  let v384 : BitVec 32 := Scalar.subi v381 v383
  let c16_i32_119 : BitVec 32 := 16#32
  let c0_i32_122 : BitVec 32 := 0#32
  let v385 : BitVec 1 := Scalar.cmpi .sgt c16_i32_119 c0_i32_122
  let v386 : BitVec 32 := Scalar.extui v385
  let c0_i32_123 : BitVec 32 := 0#32
  let v387 : BitVec 1 := Scalar.cmpi .slt c16_i32_119 c0_i32_123
  let v388 : BitVec 32 := Scalar.extui v387
  let v389 : BitVec 32 := Scalar.subi v386 v388
  let v390 : BitVec 1 := Scalar.cmpi .ne v384 v389
  let v391 : BitVec 32 := Scalar.remsi v378 c16_i32_119
  let c0_i32_124 : BitVec 32 := 0#32
  let v392 : BitVec 1 := Scalar.cmpi .ne v391 c0_i32_124
  let v393 : BitVec 1 := Scalar.andi v390 v392
  let v379 : BitVec 32 := Scalar.divsi v378 c16_i32_119
  let c1_i32_125 : BitVec 32 := 1#32
  let v394 : BitVec 32 := Scalar.subi v379 c1_i32_125
  let v395 : BitVec 32 := Scalar.select v393 v394 v379
  let c16_i32_126 : BitVec 32 := 16#32
  let v396 : BitVec 32 := Scalar.muli v395 c16_i32_126
  v396
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32 : BitVec 32 := 11#32
  let v378 : BitVec 32 := Scalar.addi v2 c11_i32
  let c0_i32_120 : BitVec 32 := 0#32
  let v380 : BitVec 1 := Scalar.cmpi .sgt v378 c0_i32_120
  let v381 : BitVec 32 := Scalar.extui v380
  let c0_i32_121 : BitVec 32 := 0#32
  let v382 : BitVec 1 := Scalar.cmpi .slt v378 c0_i32_121
  let v383 : BitVec 32 := Scalar.extui v382
  let v384 : BitVec 32 := Scalar.subi v381 v383
  let c16_i32_119 : BitVec 32 := 16#32
  let c0_i32_122 : BitVec 32 := 0#32
  let v385 : BitVec 1 := Scalar.cmpi .sgt c16_i32_119 c0_i32_122
  let v386 : BitVec 32 := Scalar.extui v385
  let c0_i32_123 : BitVec 32 := 0#32
  let v387 : BitVec 1 := Scalar.cmpi .slt c16_i32_119 c0_i32_123
  let v388 : BitVec 32 := Scalar.extui v387
  let v389 : BitVec 32 := Scalar.subi v386 v388
  let v390 : BitVec 1 := Scalar.cmpi .ne v384 v389
  let v391 : BitVec 32 := Scalar.remsi v378 c16_i32_119
  let c0_i32_124 : BitVec 32 := 0#32
  let v392 : BitVec 1 := Scalar.cmpi .ne v391 c0_i32_124
  let v393 : BitVec 1 := Scalar.andi v390 v392
  let v379 : BitVec 32 := Scalar.divsi v378 c16_i32_119
  let c1_i32_125 : BitVec 32 := 1#32
  let v394 : BitVec 32 := Scalar.subi v379 c1_i32_125
  let v395 : BitVec 32 := Scalar.select v393 v394 v379
  let c16_i32_126 : BitVec 32 := 16#32
  let v396 : BitVec 32 := Scalar.muli v395 c16_i32_126
  let v397 : BitVec 32 := v396
  let v398 : Index := Scalar.indexCast v397
  ![v398.toNat]
def k0_mult24 (v410 : BitVec 32) : BitVec 32 :=
  v410

def k0_off13 (i : grid0.Coords) (c0_i32_130 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v412 : BitVec 32 := Scalar.addi v2 c0_i32_130
  let c32_i32 : BitVec 32 := 32#32
  let v413 : BitVec 32 := Scalar.muli v412 c32_i32
  let c0_i32_131 : BitVec 32 := 0#32
  ![v413.toNat, 0]
def k0_off14 (v36 : BitVec 32) : Fin 2 → Nat :=
  let v37 : BitVec 32 := v36
  let c0_i32_132 : BitVec 32 := 0#32
  ![v37.toNat, 0]

def k0_chk1 (v36 : BitVec 32) : Prop :=
  (32 ∣ (k0_mult2 v36).toNat) ∧
  (∀ a, (k0_off14 v36) a + S32x6272.size a ≤ S12288x6272.size a)
theorem k0_mult2_dvd : ∀ (v36 : BitVec 32) (k0_hw1 : k0_chk1 v36), 32 ∣ (k0_mult2 v36).toNat := fun v36 k0_hw1 => k0_hw1.1
theorem k0_off14_inb : ∀ (v36 : BitVec 32) (k0_hw1 : k0_chk1 v36), ∀ a, (k0_off14 v36) a + S32x6272.size a ≤ S12288x6272.size a := fun v36 k0_hw1 => k0_hw1.2

def k0_off15 (v70 : BitVec 32) : Fin 2 → Nat :=
  let v71 : BitVec 32 := v70
  let c0_i32_136 : BitVec 32 := 0#32
  ![v71.toNat, 0]

def k0_chk2 (v70 : BitVec 32) : Prop :=
  (32 ∣ (k0_mult4 v70).toNat) ∧
  (∀ a, (k0_off15 v70) a + S32x6272.size a ≤ S12288x6272.size a)
theorem k0_mult4_dvd : ∀ (v70 : BitVec 32) (k0_hw2 : k0_chk2 v70), 32 ∣ (k0_mult4 v70).toNat := fun v70 k0_hw2 => k0_hw2.1
theorem k0_off15_inb : ∀ (v70 : BitVec 32) (k0_hw2 : k0_chk2 v70), ∀ a, (k0_off15 v70) a + S32x6272.size a ≤ S12288x6272.size a := fun v70 k0_hw2 => k0_hw2.2

def k0_off16 (v104 : BitVec 32) : Fin 2 → Nat :=
  let v105 : BitVec 32 := v104
  let c0_i32_140 : BitVec 32 := 0#32
  ![v105.toNat, 0]

def k0_chk3 (v104 : BitVec 32) : Prop :=
  (32 ∣ (k0_mult6 v104).toNat) ∧
  (∀ a, (k0_off16 v104) a + S32x6272.size a ≤ S12288x6272.size a)
theorem k0_mult6_dvd : ∀ (v104 : BitVec 32) (k0_hw3 : k0_chk3 v104), 32 ∣ (k0_mult6 v104).toNat := fun v104 k0_hw3 => k0_hw3.1
theorem k0_off16_inb : ∀ (v104 : BitVec 32) (k0_hw3 : k0_chk3 v104), ∀ a, (k0_off16 v104) a + S32x6272.size a ≤ S12288x6272.size a := fun v104 k0_hw3 => k0_hw3.2

def k0_off17 (v138 : BitVec 32) : Fin 2 → Nat :=
  let v139 : BitVec 32 := v138
  let c0_i32_144 : BitVec 32 := 0#32
  ![v139.toNat, 0]

def k0_chk4 (v138 : BitVec 32) : Prop :=
  (32 ∣ (k0_mult8 v138).toNat) ∧
  (∀ a, (k0_off17 v138) a + S32x6272.size a ≤ S12288x6272.size a)
theorem k0_mult8_dvd : ∀ (v138 : BitVec 32) (k0_hw4 : k0_chk4 v138), 32 ∣ (k0_mult8 v138).toNat := fun v138 k0_hw4 => k0_hw4.1
theorem k0_off17_inb : ∀ (v138 : BitVec 32) (k0_hw4 : k0_chk4 v138), ∀ a, (k0_off17 v138) a + S32x6272.size a ≤ S12288x6272.size a := fun v138 k0_hw4 => k0_hw4.2

def k0_off18 (v172 : BitVec 32) : Fin 2 → Nat :=
  let v173 : BitVec 32 := v172
  let c0_i32_148 : BitVec 32 := 0#32
  ![v173.toNat, 0]

def k0_chk5 (v172 : BitVec 32) : Prop :=
  (32 ∣ (k0_mult10 v172).toNat) ∧
  (∀ a, (k0_off18 v172) a + S32x6272.size a ≤ S12288x6272.size a)
theorem k0_mult10_dvd : ∀ (v172 : BitVec 32) (k0_hw5 : k0_chk5 v172), 32 ∣ (k0_mult10 v172).toNat := fun v172 k0_hw5 => k0_hw5.1
theorem k0_off18_inb : ∀ (v172 : BitVec 32) (k0_hw5 : k0_chk5 v172), ∀ a, (k0_off18 v172) a + S32x6272.size a ≤ S12288x6272.size a := fun v172 k0_hw5 => k0_hw5.2

def k0_off19 (v206 : BitVec 32) : Fin 2 → Nat :=
  let v207 : BitVec 32 := v206
  let c0_i32_152 : BitVec 32 := 0#32
  ![v207.toNat, 0]

def k0_chk6 (v206 : BitVec 32) : Prop :=
  (32 ∣ (k0_mult12 v206).toNat) ∧
  (∀ a, (k0_off19 v206) a + S32x6272.size a ≤ S12288x6272.size a)
theorem k0_mult12_dvd : ∀ (v206 : BitVec 32) (k0_hw6 : k0_chk6 v206), 32 ∣ (k0_mult12 v206).toNat := fun v206 k0_hw6 => k0_hw6.1
theorem k0_off19_inb : ∀ (v206 : BitVec 32) (k0_hw6 : k0_chk6 v206), ∀ a, (k0_off19 v206) a + S32x6272.size a ≤ S12288x6272.size a := fun v206 k0_hw6 => k0_hw6.2

def k0_off20 (v240 : BitVec 32) : Fin 2 → Nat :=
  let v241 : BitVec 32 := v240
  let c0_i32_156 : BitVec 32 := 0#32
  ![v241.toNat, 0]

def k0_chk7 (v240 : BitVec 32) : Prop :=
  (32 ∣ (k0_mult14 v240).toNat) ∧
  (∀ a, (k0_off20 v240) a + S32x6272.size a ≤ S12288x6272.size a)
theorem k0_mult14_dvd : ∀ (v240 : BitVec 32) (k0_hw7 : k0_chk7 v240), 32 ∣ (k0_mult14 v240).toNat := fun v240 k0_hw7 => k0_hw7.1
theorem k0_off20_inb : ∀ (v240 : BitVec 32) (k0_hw7 : k0_chk7 v240), ∀ a, (k0_off20 v240) a + S32x6272.size a ≤ S12288x6272.size a := fun v240 k0_hw7 => k0_hw7.2

def k0_off21 (v274 : BitVec 32) : Fin 2 → Nat :=
  let v275 : BitVec 32 := v274
  let c0_i32_160 : BitVec 32 := 0#32
  ![v275.toNat, 0]

def k0_chk8 (v274 : BitVec 32) : Prop :=
  (32 ∣ (k0_mult16 v274).toNat) ∧
  (∀ a, (k0_off21 v274) a + S32x6272.size a ≤ S12288x6272.size a)
theorem k0_mult16_dvd : ∀ (v274 : BitVec 32) (k0_hw8 : k0_chk8 v274), 32 ∣ (k0_mult16 v274).toNat := fun v274 k0_hw8 => k0_hw8.1
theorem k0_off21_inb : ∀ (v274 : BitVec 32) (k0_hw8 : k0_chk8 v274), ∀ a, (k0_off21 v274) a + S32x6272.size a ≤ S12288x6272.size a := fun v274 k0_hw8 => k0_hw8.2

def k0_off22 (v308 : BitVec 32) : Fin 2 → Nat :=
  let v309 : BitVec 32 := v308
  let c0_i32_164 : BitVec 32 := 0#32
  ![v309.toNat, 0]

def k0_chk9 (v308 : BitVec 32) : Prop :=
  (32 ∣ (k0_mult18 v308).toNat) ∧
  (∀ a, (k0_off22 v308) a + S32x6272.size a ≤ S12288x6272.size a)
theorem k0_mult18_dvd : ∀ (v308 : BitVec 32) (k0_hw9 : k0_chk9 v308), 32 ∣ (k0_mult18 v308).toNat := fun v308 k0_hw9 => k0_hw9.1
theorem k0_off22_inb : ∀ (v308 : BitVec 32) (k0_hw9 : k0_chk9 v308), ∀ a, (k0_off22 v308) a + S32x6272.size a ≤ S12288x6272.size a := fun v308 k0_hw9 => k0_hw9.2

def k0_off23 (v342 : BitVec 32) : Fin 2 → Nat :=
  let v343 : BitVec 32 := v342
  let c0_i32_168 : BitVec 32 := 0#32
  ![v343.toNat, 0]

def k0_chk10 (v342 : BitVec 32) : Prop :=
  (32 ∣ (k0_mult20 v342).toNat) ∧
  (∀ a, (k0_off23 v342) a + S32x6272.size a ≤ S12288x6272.size a)
theorem k0_mult20_dvd : ∀ (v342 : BitVec 32) (k0_hw10 : k0_chk10 v342), 32 ∣ (k0_mult20 v342).toNat := fun v342 k0_hw10 => k0_hw10.1
theorem k0_off23_inb : ∀ (v342 : BitVec 32) (k0_hw10 : k0_chk10 v342), ∀ a, (k0_off23 v342) a + S32x6272.size a ≤ S12288x6272.size a := fun v342 k0_hw10 => k0_hw10.2

def k0_off24 (v376 : BitVec 32) : Fin 2 → Nat :=
  let v377 : BitVec 32 := v376
  let c0_i32_172 : BitVec 32 := 0#32
  ![v377.toNat, 0]

def k0_chk11 (v376 : BitVec 32) : Prop :=
  (32 ∣ (k0_mult22 v376).toNat) ∧
  (∀ a, (k0_off24 v376) a + S32x6272.size a ≤ S12288x6272.size a)
theorem k0_mult22_dvd : ∀ (v376 : BitVec 32) (k0_hw11 : k0_chk11 v376), 32 ∣ (k0_mult22 v376).toNat := fun v376 k0_hw11 => k0_hw11.1
theorem k0_off24_inb : ∀ (v376 : BitVec 32) (k0_hw11 : k0_chk11 v376), ∀ a, (k0_off24 v376) a + S32x6272.size a ≤ S12288x6272.size a := fun v376 k0_hw11 => k0_hw11.2

def k0_off25 (v410 : BitVec 32) : Fin 2 → Nat :=
  let v411 : BitVec 32 := v410
  let c0_i32_176 : BitVec 32 := 0#32
  ![v411.toNat, 0]

def k0_chk12 (v410 : BitVec 32) : Prop :=
  (32 ∣ (k0_mult24 v410).toNat) ∧
  (∀ a, (k0_off25 v410) a + S32x6272.size a ≤ S12288x6272.size a)
theorem k0_mult24_dvd : ∀ (v410 : BitVec 32) (k0_hw12 : k0_chk12 v410), 32 ∣ (k0_mult24 v410).toNat := fun v410 k0_hw12 => k0_hw12.1
theorem k0_off25_inb : ∀ (v410 : BitVec 32) (k0_hw12 : k0_chk12 v410), ∀ a, (k0_off25 v410) a + S32x6272.size a ≤ S12288x6272.size a := fun v410 k0_hw12 => k0_hw12.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x768x224x224 : Shape := ⟨4, ![2, 768, 224, 224]⟩
abbrev S192 : Shape := ⟨1, ![192]⟩
abbrev S192x1 : Shape := ⟨2, ![192, 1]⟩
abbrev S_ : Shape := ⟨0, ![]⟩
abbrev S4 : Shape := ⟨1, ![4]⟩
abbrev S1x4 : Shape := ⟨2, ![1, 4]⟩
abbrev S192x4 : Shape := ⟨2, ![192, 4]⟩
abbrev S768 : Shape := ⟨1, ![768]⟩
abbrev S768x1 : Shape := ⟨2, ![768, 1]⟩
abbrev S1 : Shape := ⟨1, ![1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x768x224x224, .f32⟩
  | .hbm, ⟨1, _⟩ => ⟨S192, .i32⟩
  | .hbm, ⟨2, _⟩ => ⟨S192x1, .i32⟩
  | .hbm, ⟨3, _⟩ => ⟨S_, .i32⟩
  | .hbm, ⟨4, _⟩ => ⟨S192x1, .i32⟩
  | .hbm, ⟨5, _⟩ => ⟨S192x1, .i32⟩
  | .hbm, ⟨6, _⟩ => ⟨S4, .i32⟩
  | .hbm, ⟨7, _⟩ => ⟨S1x4, .i32⟩
  | .hbm, ⟨8, _⟩ => ⟨S192x4, .i32⟩
  | .hbm, ⟨9, _⟩ => ⟨S192x4, .i32⟩
  | .hbm, ⟨10, _⟩ => ⟨S192x4, .i32⟩
  | .hbm, ⟨11, _⟩ => ⟨S768, .i32⟩
  | .hbm, ⟨12, _⟩ => ⟨S_, .i32⟩
  | .hbm, ⟨13, _⟩ => ⟨S768, .i32⟩
  | .hbm, ⟨14, _⟩ => ⟨S768, .i1⟩
  | .hbm, ⟨15, _⟩ => ⟨S_, .i32⟩
  | .hbm, ⟨16, _⟩ => ⟨S768, .i32⟩
  | .hbm, ⟨17, _⟩ => ⟨S768, .i32⟩
  | .hbm, ⟨18, _⟩ => ⟨S768, .i32⟩
  | .hbm, ⟨19, _⟩ => ⟨S768x1, .i32⟩
  | .hbm, ⟨20, _⟩ => ⟨S1, .i32⟩
  | .hbm, ⟨21, _⟩ => ⟨S_, .i32⟩
  | .hbm, ⟨22, _⟩ => ⟨S768x1, .i32⟩
  | .hbm, ⟨23, _⟩ => ⟨S768x1, .i1⟩
  | .hbm, ⟨24, _⟩ => ⟨S1x1, .i32⟩
  | .hbm, ⟨25, _⟩ => ⟨S768x1, .i32⟩
  | .hbm, ⟨26, _⟩ => ⟨S768x1, .i1⟩
  | .hbm, ⟨27, _⟩ => ⟨S768x1, .i1⟩
  | .hbm, ⟨28, _⟩ => ⟨S_, .i1⟩
  | .hbm, ⟨29, _⟩ => ⟨S768, .i1⟩
  | .hbm, ⟨30, _⟩ => ⟨S2x768x224x224, .f32⟩
  | .hbm, ⟨31, _⟩ => ⟨S2x768x224x224, .i1⟩
  | .hbm, ⟨32, _⟩ => ⟨S_, .f32⟩
  | .hbm, ⟨33, _⟩ => ⟨S2x768x224x224, .f32⟩
  | .hbm, ⟨34, _⟩ => ⟨S2x768x224x224, .f32⟩
  | _, _ => ⟨S2x768x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v9 : Ref sig .tc := ⟨.hbm, 34, rfl⟩

abbrev nD : Nat := 1
abbrev τ : Topo := Topo.v7x

variable {F : FTy → Type} [FloatOps F]
-- ==== Proof.Table.lean ====
/-
  The kernel's table of row numbers, as plain facts about its 384 words. A GROUP is thirty-two consecutive rows of the
  `[12288, 6272]` array: four channels of one image, eight rows each. Word `g` of the table is the first row of the group
  that goes to group `g` of the result, so it is thirty-two times a group number (`word_eq`), and no two words are equal
  (`src_injective`): the table permutes the groups.
-/
module

public import proofs.«01_k».proof.Defs
public import proofs.«01_k».proof.Proof.Gen.KernelIdeal

@[expose] public section

noncomputable section

namespace Cert.Proof.Table

open Cert.KernelIdeal Cert.KernelIdeal.Gen
open Idealize.ShloMosaic

/-- The group that word `g` of the table names. -/
def srcN (g : Fin 384) : ℕ := (lit0 g).toNat / 32

/-- Every word of the table names a group. -/
theorem srcN_lt : ∀ g : Fin 384, srcN g < 384 := by decide +kernel

/-- The group that group `g` of the result is copied from. -/
def src (g : Fin 384) : Fin 384 := ⟨srcN g, srcN_lt g⟩

/-- Word `g` of the table is the first row of group `src g`. -/
theorem word_eq : ∀ g : Fin 384, (lit0 g).toNat = 32 * (src g).val := by decide +kernel

/-- The groups a list of words names, as the set bits of one number. -/
def mask (l : List (Fin 384)) : ℕ := l.foldr (fun g a => a ||| 2 ^ srcN g) 0

/-- A bit set in the mask of a list of groups is the number of some listed group's source. -/
theorem exists_of_testBit (h : ℕ) : ∀ l : List (Fin 384), (mask l).testBit h = true → ∃ g ∈ l, srcN g = h
  | [], e => by simp [mask] at e
  | g :: l, e => by
    have e' : ((mask l) ||| 2 ^ srcN g).testBit h = true := e
    rw [Nat.testBit_or, Bool.or_eq_true] at e'
    rcases e' with e' | e'
    · obtain ⟨g', hg', he⟩ := exists_of_testBit h l e'
      exact ⟨g', List.mem_cons_of_mem _ hg', he⟩
    · rw [Nat.testBit_two_pow] at e'
      exact ⟨g, List.mem_cons_self, of_decide_eq_true e'⟩

/-- The mask of all groups has every bit set. -/
theorem mask_all : mask (List.finRange 384) = 2 ^ 384 - 1 := by decide +kernel

/-- Every group is some group's source. -/
theorem src_surjective : Function.Surjective src := fun h => by
  have e : (mask (List.finRange 384)).testBit h.val = true := by
    rw [mask_all, Nat.testBit_two_pow_sub_one]; exact decide_eq_true h.isLt
  obtain ⟨g, -, hg⟩ := exists_of_testBit h.val _ e
  exact ⟨g, Fin.ext hg⟩

/-- No two groups have the same source. -/
theorem src_injective : Function.Injective src := Finite.injective_iff_surjective.mpr src_surjective

/-- The table's permutation of the groups. -/
def perm : Fin 384 ≃ Fin 384 := Equiv.ofBijective src ⟨src_injective, src_surjective⟩

end Cert.Proof.Table

end
-- ==== Proof.Setup.lean ====
/-
  What the proof of the kernel's run is written over: the program as the SparseCore launch theorem takes it, the resource
  algebra, the three arrays and the pieces of them that the tasks hold, and what the launch and its tasks hand each other.

  The `[12288, 6272]` arrays are cut into 384 groups of thirty-two rows (`part g`). Task `(c, s)` writes the twelve groups
  `gix L 0, …, gix L 11` of the result, each copied from group `src (gix L j)` of the argument. Since `src` permutes the
  groups, the tasks' groups of the argument are disjoint too, so each task holds its own outright, and only the table is
  shared, a read share of it to each task.
-/
module

public import proofs.«01_k».proof.Defs
public import proofs.«01_k».proof.Proof.Table
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Copy

open Cert.KernelIdeal Cert.KernelIdeal.Gen
open Cert.Proof.Table

open Idealize.ShloMosaic
open Idealize.ShloMosaic.SparseCore (V)
open Idealize.ShloMosaic.ValueIdx (ix2)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The names of the program's bodies. -/
abbrev ΛP : Labels := Pipeline.Sig Λ₀ (Fin 0) fun p => (pcfgs (F := F) p).Adm
/-- The SparseCore call, the bodies beside it, and the variants (none). -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores differ and belong to no task, as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

/-- The handshakes' rounds. -/
abbrev UH : Type := URounds (GSem nD τ sig) ℕ
/-- The whole ghost state. -/
abbrev UU : Type := UH × Counters

local notation "𝕄" => MT nD τ sig (HIx 1) (Elt F) ℕ UU ℕ

/-- Where the handshakes' rounds stand in it. -/
abbrev EH : Emb UH (MT nD τ sig (HIx 1) (Elt F) ℕ UU ℕ) := embL

/-! ## The arrays, and their groups of rows -/

/-- The array the kernel reads, its table, and the array it writes, in the TensorCore's names. -/
abbrev xLoc (d : Dev nD) : Loc nD τ sig := (SparseCore.T d).loc main_v0
abbrev iLoc (d : Dev nD) : Loc nD τ sig := (SparseCore.T d).loc main_c
abbrev oLoc (d : Dev nD) : Loc nD τ sig := (SparseCore.T d).loc main_v1

/-- The arrays and the scratch as a vector subcore names them. -/
abbrev xV : Memref sig .scVector .hbm S12288x6272 .f32 := Memref.whole main_v0_scv
abbrev iV : Memref sig .scVector .hbm S384 .i32 := Memref.whole main_c_scv
abbrev oV : Memref sig .scVector .hbm S12288x6272 .f32 := Memref.whole main_v1_scv
abbrev sV : Memref sig .scVector .vmem S384 .i32 := Memref.whole cc0_scratch0

/-- The rows fall into 384 groups. -/
theorem part_dvd : 384 ∣ S12288x6272.size 0 := ⟨32, rfl⟩

/-- Group `g` of the rows. -/
abbrev part (g : Fin 384) : Rect S12288x6272 := Rect.part (s := S12288x6272) (a₀ := 0) part_dvd g

/-- The table as its array's contents. -/
def table : S384.Idx → Elt F .i32 := fun i => lit0 (S384.rowMajor i)

/-- A subcore's number among the thirty-two, and the number of its `j`-th group. -/
def widOf (c : Fin τ.nSC) (i : Fin τ.nSub) : Fin 32 := ⟨2 * i.val + c.val, by
  have h0 : c.val < 2 := c.isLt
  have h1 : i.val < 16 := i.isLt
  omega⟩
def wid (L : grid0.Coords) : Fin 32 := widOf ((L 0).castLE hcore0) ((L 1).castLE hsub0)
def gix (w : Fin 32) (j : Fin 12) : Fin 384 := ⟨12 * w.val + j.val, by omega⟩

/-- The row of the argument that row `r` of the result is copied from. -/
def srcRow (r : Fin 12288) : Fin 12288 :=
  ⟨32 * (src ⟨r.val / 32, by omega⟩).val + r.val % 32, by have := (src ⟨r.val / 32, by omega⟩).isLt; omega⟩

/-- The permuted array: what the kernel leaves in its result, given the argument's contents. -/
def permuted (f : S12288x6272.Idx → Elt F .f32) : S12288x6272.Idx → Elt F .f32 :=
  fun i => f (ix2 (srcRow (i 0)) (i 1))

/-- An index is in a group when its row is. -/
theorem mem_part {g : Fin 384} {i : S12288x6272.Idx} : i ∈ (part g).set ↔ (i 0).val / 32 = g.val := by
  have h1 : (i 1).val < 6272 := (i 1).isLt
  have hg := g.isLt
  rw [Rect.mem_set_unit]
  refine ⟨fun h => ?_, fun h a => ?_⟩
  · have h0 : g.val * 32 ≤ (i 0).val ∧ (i 0).val < g.val * 32 + 32 := h 0
    omega
  · match a with
    | 0 => show g.val * 32 ≤ (i 0).val ∧ (i 0).val < g.val * 32 + 32; omega
    | 1 => show 0 * 6272 ≤ (i 1).val ∧ (i 1).val < 0 * 6272 + 6272; omega

end Cert.Proof.Copy

end
-- ==== Proof.Words.lean ====
/-
  How a task gets a word of the table into a scalar. The kernel loads the sixteen aligned words that the wanted one is
  among, keeps the wanted lane and zeroes the others, and takes the maximum. The maximum is a running one over unsigned
  words, so the kernel flips the top bit on the way in and on the way out. `pick_eq` says that this is the wanted word
  whenever that word is not negative. `laneOf_eq` says which lane the kernel's scalar arithmetic selects.
-/
module

public import proofs.«01_k».proof.Defs
public import proofs.«01_k».proof.Proof.Table
public import proofs.«01_k».proof.Proof.Gen.KernelIdeal

@[expose] public section

noncomputable section

namespace Cert.Proof.Words

open Cert.KernelIdeal Cert.KernelIdeal.Gen
open Idealize.ShloMosaic

/-- The kernel's selection of lane `k` of `v`. -/
def pick (k : BitVec 32) (v : IVec S16 32) : BitVec 32 :=
  extractAt ![15] (xori (scan .max (xori (select (cmpi .eq (iota .scVector S16 32 [0] iota_S16_d0_w32_scVector) (broadcast S16 k)) v
    (broadcast S16 0#32)) (broadcast S16 2147483648#32))) (broadcast S16 2147483648#32)) inpos_S16_p15

/-- The index of lane `l`. -/
def lane (l : Fin 16) : S16.Idx := Shape.ofLane (d := ![16]) l

/-- A running maximum over words that are all `lo` but for a greater one at `k`. -/
theorem foldl_max {n : ℕ} (k : Fin n) (lo hi : BitVec 32) (hle : lo.toNat ≤ hi.toNat) (u : Fin n → BitVec 32)
    (hu : ∀ l, u l = if l = k then hi else lo) :
    ∀ (l : List (Fin n)) (r : BitVec 32), r = lo ∨ r = hi →
      l.foldl (fun r k => ScanKind.step .max r (u k)) r = if k ∈ l then hi else r
  | [], r, _ => by simp
  | a :: l, r, hr => by
    have hmax : ∀ x y : BitVec 32, ScanKind.step .max x y = if y.toNat < x.toNat then x else y := fun x y => by
      simp only [ScanKind.step, IntOp.maxui, BitVec.ult_eq_decide, decide_eq_true_eq]
    have h1 : ScanKind.step .max r (u a) = if a = k then hi else r := by
      rw [hmax, hu a]
      by_cases ha : a = k
      · rw [if_pos ha, if_pos ha]
        split
        · rcases hr with rfl | rfl
          · omega
          · rfl
        · rfl
      · rw [if_neg ha, if_neg ha]
        split
        · rfl
        · rcases hr with rfl | rfl
          · rfl
          · apply BitVec.eq_of_toNat_eq; omega
    have h2 : (if a = k then hi else r) = lo ∨ (if a = k then hi else r) = hi := by
      split
      · exact .inr rfl
      · exact hr
    rw [List.foldl_cons, h1, foldl_max k lo hi hle u hu l _ h2]
    by_cases hk : k ∈ l
    · rw [if_pos hk, if_pos (List.mem_cons_of_mem _ hk)]
    · rw [if_neg hk]
      by_cases ha : a = k
      · rw [if_pos ha, if_pos (ha ▸ List.mem_cons_self)]
      · rw [if_neg ha, if_neg (fun h => (List.mem_cons.1 h).elim (fun e => ha e.symm) hk)]

/-- The last lane of the running maximum, a constant taken off. -/
theorem last_scan (s : IVec S16 32) (c : BitVec 32) :
    extractAt ![15] (xori (scan .max s) (broadcast S16 c)) inpos_S16_p15
      = ((List.finRange 16).filter fun l => decide (0 < l.val ∧ l.val ≤ 15)).foldl
          (fun r l => ScanKind.step .max r (s (lane l))) (s (lane 0)) ^^^ c := rfl

/-- The selection is the wanted word, when that word is not negative. -/
theorem pick_eq (k : Fin 16) (v : IVec S16 32) (hv : (v (lane k)).toNat < 2 ^ 31) :
    pick (BitVec.ofNat 32 k.val) v = v (lane k) := by
  have hsel : ∀ l : Fin 16, xori (select (cmpi .eq (iota .scVector S16 32 [0] iota_S16_d0_w32_scVector) (broadcast S16 (BitVec.ofNat 32 k.val))) v
      (broadcast S16 0#32)) (broadcast S16 2147483648#32) (lane l)
      = if l = k then v (lane k) ^^^ 2147483648#32 else 2147483648#32 := by
    intro l
    show (if BitVec.ofBool (BitVec.ofNat 32 (0 * 16 + l.val) == BitVec.ofNat 32 k.val) = 1 then v (lane l) else 0#32)
        ^^^ 2147483648#32 = _
    by_cases h : l = k
    · subst h; simp
    · have hne : ¬ (BitVec.ofNat 32 (0 * 16 + l.val) = BitVec.ofNat 32 k.val) := fun e => h (Fin.ext (by
        have := congrArg BitVec.toNat e
        simp only [BitVec.toNat_ofNat] at this
        omega))
      rw [if_neg h, beq_eq_false_iff_ne.2 hne, if_neg (by decide), BitVec.zero_xor]
  have hge : (2147483648#32).toNat ≤ (v (lane k) ^^^ 2147483648#32).toNat := by
    generalize v (lane k) = w at hv ⊢
    rw [BitVec.toNat_xor]
    refine Nat.ge_two_pow_of_testBit (i := 31) ?_
    rw [Nat.testBit_xor, Nat.testBit_lt_two_pow hv]
    rfl
  unfold pick
  generalize xori (select _ _ _) _ = s at hsel ⊢
  rw [last_scan, foldl_max k _ _ hge _ hsel _ _ (by rw [hsel]; split <;> simp), hsel]
  have hcase : k ∈ ((List.finRange 16).filter fun l => decide (0 < l.val ∧ l.val ≤ 15)) ∨ (0 : Fin 16) = k := by
    clear hv hsel hge; revert k; decide
  rcases hcase with h | h
  · rw [if_pos h, BitVec.xor_assoc, BitVec.xor_self, BitVec.xor_zero]
  · rw [if_pos h, ite_self, BitVec.xor_assoc, BitVec.xor_self, BitVec.xor_zero]

/-- The lane of the table's word `j` of a task, by the kernel's own arithmetic: the word's number less sixteen times
its quotient by sixteen rounded down. -/
def laneOf (i : grid0.Coords) (j : BitVec 32) : BitVec 32 :=
  let n := Scalar.addi (Scalar.muli (Scalar.addi (Scalar.muli (BitVec.ofNat 32 (i 1).val) 2#32) (BitVec.ofNat 32 (i 0).val)) 12#32) j
  let sign (x : BitVec 32) : BitVec 32 := Scalar.subi (Scalar.extui (Scalar.cmpi .sgt x 0#32)) (Scalar.extui (Scalar.cmpi .slt x 0#32))
  let q := Scalar.divsi n 16#32
  Scalar.subi n (Scalar.muli (Scalar.select (Scalar.andi (Scalar.cmpi .ne (sign n) (sign 16#32))
    (Scalar.cmpi .ne (Scalar.remsi n 16#32) 0#32)) (Scalar.subi q 1#32) q) 16#32)

/-- The lane that the kernel selects for a task's `j`-th word: the word's place among its sixteen. -/
theorem laneOf_eq : ∀ (i : grid0.Coords) (j : Fin 12),
    laneOf i (BitVec.ofNat 32 j.val) = BitVec.ofNat 32 ((24 * (i 1).val + 12 * (i 0).val + j.val) % 16) := by
  decide +kernel

end Cert.Proof.Words

end
-- ==== Proof.Tile.lean ====
/-
  The steps of one task, each stated once. The word that the task reads of the table for its `j`-th group (`word_at`), the
  windows its copies move and what a copy leaves (`landed`), and its twelve copies on one semaphore: issuing the `j`-th
  (`issue`), a wait that brings back nothing (`await`), and the last wait, which brings back every group (`await_last`).

  The twelve copies are outstanding together, and nothing touches their windows between the first issue and the last wait,
  so they are kept as one batch (`inFlight`).
-/
module
public import proofs.«01_k».proof.Proof.Setup
public import proofs.«01_k».proof.Proof.Words
public import Idealize.ShloMosaic.Lib.Tactic.Stretches
@[expose] public section

noncomputable section

namespace Cert.Proof.Copy

open Cert.KernelIdeal Cert.KernelIdeal.Gen
open Cert.Proof.Table Cert.Proof.Words

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)
/-- The SparseCore, the subcore and the thread of a grid position. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-! ## The words of the table -/

/-- The word that a task picks for its `j`-th group, from the scratch into which it has fetched the table. -/
theorem word_at (j : Fin 12) {off : Fin 1 → ℕ} (hoff : off = ![16 * ((24 * (L 1).val + 12 * (L 0).val + j.val) / 16)])
    (h : ∀ a, off a + S16.size a ≤ S384.size a) (fs : Buf (Elt F) ((tile d L).loc cc0_scratch0)) :
    pick (laneOf L (BitVec.ofNat 32 j.val)) ((sV).view.readAt (Elt F) (Rect.unit (s := S384) off S16.size h).toLoadRect
        ((sV).view.write (Elt F) fs (ReadAs.same.apply ((iV).view.read (Elt F) (table (F := F)))) Finset.univ))
      = lit0 (gix (wid L) j) := by
  have h0 : (L 0).val < 2 := (L 0).isLt
  have h1 : (L 1).val < 16 := (L 1).isLt
  have hj := j.isLt
  obtain ⟨k, hk⟩ : ∃ k : Fin 16, (24 * (L 1).val + 12 * (L 0).val + j.val) % 16 = k.val := ⟨⟨_, Nat.mod_lt _ (by decide)⟩, rfl⟩
  have hlane : (sV).view.readAt (Elt F) (Rect.unit (s := S384) off S16.size h).toLoadRect
        ((sV).view.write (Elt F) fs (ReadAs.same.apply ((iV).view.read (Elt F) (table (F := F)))) Finset.univ) (lane k) = lit0 (gix (wid L) j) := by
    refine (congrFun (congrArg (fun f => (sV).view.readAt (Elt F) (Rect.unit (s := S384) off S16.size h).toLoadRect f)
      (View.write_whole_univ cc0_scratch0 fs _)) _).trans ?_
    show lit0 (S384.rowMajor _) = _
    refine congrArg lit0 (Fin.ext ?_)
    rw [Shape.rowMajor_val_one]
    show off 0 + 1 * k.val = 12 * (2 * (L 1).val + (L 0).val) + j.val
    rw [hoff]
    show 16 * ((24 * (L 1).val + 12 * (L 0).val + j.val) / 16) + 1 * k.val = _
    omega
  rw [laneOf_eq, hk, pick_eq, hlane]
  rw [hlane, word_eq]
  omega

/-- Where the load that holds a task's first word starts. -/
theorem k0_off1_eq : ∀ i : grid0.Coords, k0_off1 i = ![16 * ((24 * (i 1).val + 12 * (i 0).val + 0) / 16)] := by decide +kernel

/-- What the kernel assumes of each word. -/
theorem word_ok (g : Fin 384) : 32 ∣ (lit0 g).toNat ∧ ∀ a, (![(lit0 g).toNat, 0] : Fin 2 → ℕ) a + S32x6272.size a ≤ S12288x6272.size a := by
  rw [word_eq]
  refine ⟨⟨_, rfl⟩, fun a => ?_⟩
  have := (src g).isLt
  match a with
  | 0 => show 32 * (src g).val + 32 ≤ 12288; omega
  | 1 => show 0 + 6272 ≤ 6272; omega

/-! ## The windows of the copies -/

/-- The window of thirty-two rows that starts at an offset, of the argument and of the result. -/
abbrev xWin (off : Fin 2 → ℕ) (h : ∀ a, off a + S32x6272.size a ≤ S12288x6272.size a) : Memref sig .scVector .hbm S32x6272 .f32 :=
  xV.slice (Rect.unit (s := S12288x6272) off S32x6272.size h) (fun _ => rfl)
abbrev oWin (off : Fin 2 → ℕ) (h : ∀ a, off a + S32x6272.size a ≤ S12288x6272.size a) : Memref sig .scVector .hbm S32x6272 .f32 :=
  oV.slice (Rect.unit (s := S12288x6272) off S32x6272.size h) (fun _ => rfl)

section Windows
variable {d L}

omit [FloatOps F] in
/-- The rectangle a window is cut along is a group of rows. -/
theorem set_win {g : Fin 384} {off : Fin 2 → ℕ} (hoff : off = ![32 * g.val, 0])
    (h : ∀ a, off a + S32x6272.size a ≤ S12288x6272.size a) :
    (Rect.unit (s := S12288x6272) off S32x6272.size h).set = (part g).set := by
  subst hoff
  ext i
  have h1 : (i 1).val < 6272 := (i 1).isLt
  rw [mem_part, Rect.mem_set_unit]
  refine ⟨fun h => ?_, fun h a => ?_⟩
  · have h0 : 32 * g.val ≤ (i 0).val ∧ (i 0).val < 32 * g.val + 32 := h 0
    omega
  · match a with
    | 0 => show 32 * g.val ≤ (i 0).val ∧ (i 0).val < 32 * g.val + 32; omega
    | 1 => show 0 ≤ (i 1).val ∧ (i 1).val < 0 + 6272; omega

/-- Where the window a word names starts. -/
theorem off_src {w : BitVec 32} {g : Fin 384} (h : w = lit0 g) : (![w.toNat, 0] : Fin 2 → ℕ) = ![32 * (src g).val, 0] := by
  rw [h, word_eq]

/-- Where the window of a task's `j`-th group starts. -/
theorem off_dst (j : Fin 12) : k0_off13 L (BitVec.ofNat 32 j.val) = ![32 * (gix (wid L) j).val, 0] := by
  rw [k0_off13_eq]
  have e : 768 * (L 1).val + 384 * (L 0).val + 32 * j.val = 32 * (gix (wid L) j).val := by
    show _ = 32 * (12 * (2 * (L 1).val + (L 0).val) + j.val)
    omega
  rw [e]

omit [FloatOps F] in
/-- A window of the argument copied into a window of the result leaves the permuted array there. -/
theorem landed {g : Fin 384} {offs offd : Fin 2 → ℕ} (hoffs : offs = ![32 * (src g).val, 0]) (hoffd : offd = ![32 * g.val, 0])
    (hs : ∀ a, offs a + S32x6272.size a ≤ S12288x6272.size a) (hd : ∀ a, offd a + S32x6272.size a ≤ S12288x6272.size a)
    (fx fo : S12288x6272.Idx → Elt F .f32) :
    ∀ i ∈ (part g).set, (oWin offd hd).view.write (Elt F) fo
      (ReadAs.same.apply ((xWin offs hs).view.read (Elt F) fx)) Finset.univ i
        = permuted fx i := by
  intro i hi
  have hg : (i 0).val / 32 = g.val := mem_part.1 hi
  rw [← set_win hoffd hd, ← Rect.map_emb_univ] at hi
  obtain ⟨y, -, rfl⟩ := Finset.mem_map.1 hi
  refine (View.write_emb_of_mem (v := (oWin offd hd).view) fo _ (Finset.mem_univ y)).trans ?_
  subst hoffs hoffd
  have hy : (y 0).val < 32 := (y 0).isLt
  show fx _ = fx _
  refine congrArg fx (funext fun a => Fin.ext ?_)
  have hsrc : ∀ (n : Fin 384), n = g → (src n).val = (src g).val := fun n e => by rw [e]
  match a with
  | 0 =>
    have e := hsrc ⟨(32 * g.val + 1 * (y 0).val) / 32, by have := g.isLt; omega⟩ (Fin.ext (by show (32 * g.val + 1 * (y 0).val) / 32 = g.val; omega))
    show 32 * (src g).val + 1 * (y 0).val = 32 * (src ⟨(32 * g.val + 1 * (y 0).val) / 32, _⟩).val + (32 * g.val + 1 * (y 0).val) % 32
    omega
  | 1 => rfl

end Windows

/-! ## The copies -/

/-- What a task holds of its `j`-th group before the copies, and after. -/
abbrev groupIn (w : Fin 32) (fx : S12288x6272.Idx → Elt F .f32) (fo : S12288x6272.Idx → Elt F .f32) (j : Fin 12) : sProp 𝕄 :=
  iprop((xLoc d ↦[(part (src (gix w j))).set]{fullShare} fx) ∗ (oLoc d ↦[(part (gix w j)).set]{fullShare} fo))

/-- The amount one copy adds to the semaphore. -/
abbrev unit : ℕ := (oWin (k0_off13 L 0#32) (k0_off13_inb L 0)).view.dmaCredit

/-- The task's copies, `k` of them issued and `n` of them waited for. -/
def inFlight (fx : S12288x6272.Idx → Elt F .f32) (k n : ℕ) : sProp 𝕄 :=
  Transfers.Batch (Lvl := ℕ) countersEmb (tile d L) (.dma cc0_scratch1.sem) (default : HIx 1) (unit L)
    (groupIn d (wid L) fx (permuted fx)) k (unit L * n)

/-- What a task owes, and that the waits it has recorded are its own. -/
def owing (O : CellTallies nD τ sig (HIx 1)) (W : Waits sig (HIx 1)) : sProp 𝕄 :=
  iprop(∃ W', ⌜∀ p ∈ W', p ∈ W ∨ p.2 = none⌝ ∗ owes (tile d L) O W')

omit [FloatOps F] in
/-- A copy adds something to the semaphore. -/
theorem unit_pos : 0 < unit L := View.dmaCredit_pos _ (by decide)

omit [FloatOps F] in
/-- No copy is in flight yet. -/
theorem inFlight_start (fx : S12288x6272.Idx → Elt F .f32) :
    (semVal (tile d L, .dma cc0_scratch1.sem) 0 : sProp 𝕄) ⊢ |={Set.univ}=> inFlight d L fx 0 0 :=
  Transfers.batch_alloc' (Lvl := ℕ) countersEmb (tile d L) (default : HIx 1) (unit L) (groupIn d (wid L) fx (permuted fx))

set_option maxHeartbeats 1000000 in
/-- The `j`-th copy is issued: it takes its two groups along. -/
theorem issue (j : Fin 12) {offs offd : Fin 2 → ℕ} (hoffs : offs = ![32 * (src (gix (wid L) j)).val, 0]) (hoffd : offd = ![32 * (gix (wid L) j).val, 0])
    (hs : ∀ a, offs a + S32x6272.size a ≤ S12288x6272.size a) (hd : ∀ a, offd a + S32x6272.size a ≤ S12288x6272.size a)
    (fx fo : S12288x6272.Idx → Elt F .f32) {α : Type} {Q : α → sProp 𝕄} {k : PUnit → Prog (TpuEff nD τ sig (Elt F) Λ₀ (tile d L).2) α}
    {h1 : (xWin offs hs).view.WordExact}
    {h2 : (oWin offd hd).view.WordExact}
    {h3 : DmaTarget.Typed (nD := nD) (τ := τ) (sig := sig) (p := (tile d L).2) .hbm (.dma cc0_scratch1.sem) (.here (oWin offd hd))} :
    iprop(bigSep (Transfers.pending j.val) (groupIn d (wid L) fx fo) ∗ inFlight d L fx j.val 0)
      ⊢ iprop((iprop(bigSep (Transfers.pending (j.val + 1)) (groupIn d (wid L) fx fo) ∗ inFlight d L fx (j.val + 1) 0)
            -∗ wp frame (wpE (defs₀ (F := F)) 𝒱₀ (tile d L) none) Set.univ (k ⟨⟩) Q)
          -∗ wp frame (wpE (defs₀ (F := F)) 𝒱₀ (tile d L) none) Set.univ
            (.op (.enqueueDma (xWin offs hs)
              (.here (oWin offd hd)) (.dma cc0_scratch1.sem) h1 h2 h3) k) Q) := by
  have es : (xWin offs hs).view.set = (part (src (gix (wid L) j))).set :=
    (View.set_slice_whole _ _).trans (set_win hoffs hs)
  have ed : (oWin offd hd).view.set = (part (gix (wid L) j)).set :=
    (View.set_slice_whole _ _).trans (set_win hoffd hd)
  rw [Transfers.bigSep_pending_step _ j.val j.isLt]; unfold inFlight
  iintro ⟨⟨⟨Hx, Ho⟩, Hrest⟩, HB⟩ Hk
  ihave Hx' := (Entails.of_eq (show (xLoc d ↦[(part (src (gix (wid L) j))).set]{fullShare} fx : sProp 𝕄)
    = ((xWin offs hs).view.loc (tile d L)
        ↦[(xWin offs hs).view.set]{fullShare} fx : sProp 𝕄) by rw [es])) $$ Hx
  ihave Ho' := (Entails.of_eq (show (oLoc d ↦[(part (gix (wid L) j)).set]{fullShare} fo : sProp 𝕄)
    = ((oWin offd hd).view.loc (tile d L)
        ↦[(oWin offd hd).view.set]{fullShare} fo : sProp 𝕄) by rw [ed])) $$ Ho
  iapply (Transfers.wp_dmaBatch (Lvl := ℕ) countersEmb 𝒱₀ (tile d L) none (default : HIx 1) (unit L) rfl (Finset.Subset.refl _) j.isLt (Nat.zero_le _) ?_) $$ [Hx' Ho' HB]
  rotate_left
  · isplitl [Hx']; · iexact Hx'
    isplitl [Ho']; · iexact Ho'
    iexact HB
  · iintro HB
    iapply Hk
    isplitl [Hrest]; · iexact Hrest
    iexact HB
  · iintro ⟨Ho, Hx⟩
    isplitl [Hx]
    · rw [es]; iexact Hx
    · rw [ed]
      ihave Ho' := (Entails.of_eq (pointsTo_congr (landed hoffs hoffd hs hd fx fo))) $$ Ho
      iexact Ho'

omit [FloatOps F] in
/-- A wait of the task's own keeps the record of waits to those allowed. -/
theorem recorded {W W' : Waits sig (HIx 1)} (h : ∀ p ∈ W', p ∈ W ∨ p.2 = none) (sm : SemLoc sig) :
    ∀ p ∈ insert (sm, (default : HIx 1)) W', p ∈ W ∨ p.2 = none := fun p hp => by
  rcases Finset.mem_insert.1 hp with rfl | hp
  · exact .inr rfl
  · exact h p hp

omit [FloatOps F] in
/-- What the task owes after its first wait. -/
theorem owing_start (O : CellTallies nD τ sig (HIx 1)) (W : Waits sig (HIx 1)) (sm : SemLoc sig) :
    (owes (tile d L) O (insert (sm, (default : HIx 1)) W) : sProp 𝕄) ⊢ owing d L O W := by
  unfold owing
  iintro HO
  iexists (insert (sm, (default : HIx 1)) W)
  isplitr; · ipureintro; exact recorded (fun _ => .inl) _
  iexact HO

/-- A wait that is not the last brings back nothing. -/
theorem await (n : ℕ) (hn11 : n < 11) {offs offd : Fin 2 → ℕ}
    (hs : ∀ a, offs a + S32x6272.size a ≤ S12288x6272.size a) (hd : ∀ a, offd a + S32x6272.size a ≤ S12288x6272.size a)
    (fx : S12288x6272.Idx → Elt F .f32) (O : CellTallies nD τ sig (HIx 1)) (W : Waits sig (HIx 1))
    {α : Type} {Q : α → sProp 𝕄} {k : PUnit → Prog (TpuEff nD τ sig (Elt F) Λ₀ (tile d L).2) α}
    {h1 : (xWin offs hs).view.WordExact} {h2 : (oWin offd hd).view.WordExact} :
    iprop(inFlight d L fx 12 n ∗ owing d L O W ∗ Transfers.MayWaits (tile d L) (default : HIx 1) O)
      ⊢ iprop((iprop(inFlight d L fx 12 (n + 1) ∗ owing d L O W) -∗ wp frame (wpE (defs₀ (F := F)) 𝒱₀ (tile d L) none) Set.univ (k ⟨⟩) Q)
          -∗ wp frame (wpE (defs₀ (F := F)) 𝒱₀ (tile d L) none) Set.univ
            (.op (.waitDma2 cc0_scratch1.sem (xWin offs hs) (oWin offd hd) h1 h2) k) Q) := by
  have hn : unit L * n + unit L < unit L * 12 := by
    have := Nat.mul_lt_mul_of_pos_left (show n + 1 < 12 by omega) (unit_pos L)
    rwa [Nat.mul_succ] at this
  unfold inFlight owing
  iintro ⟨HB, ⟨%W', %hW, HO⟩, Hmw⟩ Hk
  ihave Hmw' := (Transfers.MayWaits.elim (SemLoc.dma cc0_scratch1.sem)) $$ Hmw
  iapply (Transfers.wp_waitBatchO (Lvl := ℕ) countersEmb 𝒱₀ (tile d L) none (default : HIx 1) (srcw := xWin offs hs) (dstw := oWin offd hd) (hsrc := h1) (hdst := h2) (N := unit L) rfl hn) $$ [HB HO Hmw']
  · isplitl [HB]; · iexact HB
    isplitl [HO]; · iexact HO
    iexact Hmw'
  iintro ⟨HB, HO⟩
  iapply Hk
  isplitl [HB]; · iexact HB
  iexists (insert (SemLoc.dma cc0_scratch1.sem, (default : HIx 1)) W')
  isplitr; · ipureintro; exact recorded hW _
  iexact HO

/-- The last wait brings back every group, and the semaphore's counter at zero. -/
theorem await_last {offs offd : Fin 2 → ℕ}
    (hs : ∀ a, offs a + S32x6272.size a ≤ S12288x6272.size a) (hd : ∀ a, offd a + S32x6272.size a ≤ S12288x6272.size a)
    (fx : S12288x6272.Idx → Elt F .f32) (O : CellTallies nD τ sig (HIx 1)) (W : Waits sig (HIx 1))
    {α : Type} {Q : α → sProp 𝕄} {k : PUnit → Prog (TpuEff nD τ sig (Elt F) Λ₀ (tile d L).2) α}
    {h1 : (xWin offs hs).view.WordExact} {h2 : (oWin offd hd).view.WordExact} :
    iprop(inFlight d L fx 12 11 ∗ owing d L O W ∗ Transfers.MayWaits (tile d L) (default : HIx 1) O)
      ⊢ iprop((iprop(bigSep Finset.univ (groupIn d (wid L) fx (permuted fx)) ∗ semVal (tile d L, .dma cc0_scratch1.sem) 0 ∗ owing d L O W)
            -∗ wp frame (wpE (defs₀ (F := F)) 𝒱₀ (tile d L) none) Set.univ (k ⟨⟩) Q)
          -∗ wp frame (wpE (defs₀ (F := F)) 𝒱₀ (tile d L) none) Set.univ
            (.op (.waitDma2 cc0_scratch1.sem (xWin offs hs) (oWin offd hd) h1 h2) k) Q) := by
  unfold inFlight owing
  iintro ⟨HB, ⟨%W', %hW, HO⟩, Hmw⟩ Hk
  ihave Hmw' := (Transfers.MayWaits.elim (SemLoc.dma cc0_scratch1.sem)) $$ Hmw
  iapply (Transfers.wp_waitBatchLastO (Lvl := ℕ) countersEmb 𝒱₀ (tile d L) none (default : HIx 1) (srcw := xWin offs hs) (dstw := oWin offd hd) (hsrc := h1) (hdst := h2) (N := unit L) rfl (unit_pos L)
    (Nat.mul_succ (unit L) 11).symm) $$ [HB HO Hmw']
  · isplitl [HB]; · iexact HB
    isplitl [HO]; · iexact HO
    iexact Hmw'
  iintro ⟨HD, Hv, HO⟩
  iapply Hk
  isplitl [HD]; · iexact HD
  isplitl [Hv]; · iexact Hv
  iexists (insert (SemLoc.dma cc0_scratch1.sem, (default : HIx 1)) W')
  isplitr; · ipureintro; exact recorded hW _
  iexact HO

end Cert.Proof.Copy

end
-- ==== Proof.Split.lean ====
/-
  How the arrays are dealt to the thirty-two tasks, and how what they bring back makes the arrays whole again.

  The 384 groups are numbered by task and position, and that numbering is one to one (`numbering`). The result's groups
  are dealt in this order. The argument's are dealt in the order the table permutes them into. Each task also has a read
  share of the table.
-/
module
public import proofs.«01_k».proof.Proof.Tile
@[expose] public section

noncomputable section

namespace Cert.Proof.Copy

open Cert.KernelIdeal Cert.KernelIdeal.Gen
open Cert.Proof.Table

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-! ## The numbering of the tasks and of their groups -/

/-- Every group belongs to exactly one task, at exactly one position. -/
def numbering : Fin 32 × Fin 12 ≃ Fin 384 where
  toFun p := gix p.1 p.2
  invFun g := (⟨g.val / 12, by omega⟩, ⟨g.val % 12, by omega⟩)
  left_inv p := Prod.ext (Fin.ext (by show (12 * p.1.val + p.2.val) / 12 = p.1.val; omega))
    (Fin.ext (by show (12 * p.1.val + p.2.val) % 12 = p.2.val; omega))
  right_inv g := Fin.ext (by show 12 * (g.val / 12) + g.val % 12 = g.val; omega)

/-- Every task number is exactly one subcore's. -/
def tasks : Fin τ.nSC × Fin τ.nSub ≃ Fin 32 where
  toFun p := widOf p.1 p.2
  invFun w := (⟨w.val % 2, Nat.mod_lt _ (by decide)⟩, ⟨w.val / 2, show w.val / 2 < 16 by omega⟩)
  left_inv p := by
    have h0 : p.1.val < 2 := p.1.isLt
    exact Prod.ext (Fin.ext (by show (2 * p.2.val + p.1.val) % 2 = p.1.val; omega))
      (Fin.ext (by show (2 * p.2.val + p.1.val) / 2 = p.2.val; omega))
  right_inv w := Fin.ext (by show 2 * (w.val / 2) + w.val % 2 = w.val; omega)

/-! ## The pieces -/

/-- Task `w`'s share of the table. -/
def tq (w : Fin 32) : PosShare TreeShare := Transfers.dealOf fullShare Finset.univ w

/-- What task `w` holds: its share of the table, its groups of the argument at `fx` and its groups of the result at `fo`. -/
abbrev piece (d : Dev nD) (fx fo : S12288x6272.Idx → Elt F .f32) (w : Fin 32) : sProp 𝕄 :=
  iprop((iLoc d ↦{tq w} (table (F := F))) ∗ bigSep Finset.univ (groupIn d w fx fo))

/-- An array of `[12288, 6272]` is its 384 groups. -/
theorem groups (d : Dev nD) (r : Ref sig .tc) (q : PosShare TreeShare) (J : Fin 384 → Finset (Idx ((SparseCore.T d).loc r)))
    (hd : ∀ g h, g ≠ h → Disjoint (J g) (J h)) (hc : Finset.univ.biUnion J = Finset.univ) (f : Buf (Elt F) ((SparseCore.T d).loc r)) :
    ((SparseCore.T d).loc r ↦{q} f : sProp 𝕄) = bigSep Finset.univ fun g => (SparseCore.T d).loc r ↦[J g]{q} f := by
  rw [← pointsTo_biUnion Finset.univ J (fun g _ h _ e => hd g h e), hc]

/-- Two groups of rows share no index. -/
theorem groups_disjoint (g h : Fin 384) (e : g ≠ h) : Disjoint (part g).set (part h).set := Rect.part_disjoint part_dvd e

/-- The result whole is the tasks' groups of it. -/
theorem o_groups (d : Dev nD) (f : S12288x6272.Idx → Elt F .f32) :
    (oLoc d ↦{fullShare} f : sProp 𝕄)
      = bigSep Finset.univ fun w : Fin 32 => bigSep Finset.univ fun j : Fin 12 => oLoc d ↦[(part (gix w j)).set]{fullShare} f := by
  rw [groups d main_v1 fullShare (fun g => (part g).set) groups_disjoint (Rect.biUnion_part part_dvd) f,
    bigSep_univ_equiv numbering, bigSep_univ_prod]
  rfl

/-- The argument whole is the tasks' groups of it, the table having permuted them. -/
theorem x_groups (d : Dev nD) (f : S12288x6272.Idx → Elt F .f32) :
    (xLoc d ↦{fullShare} f : sProp 𝕄)
      = bigSep Finset.univ fun w : Fin 32 => bigSep Finset.univ fun j : Fin 12 => xLoc d ↦[(part (src (gix w j))).set]{fullShare} f := by
  rw [groups d main_v0 fullShare (fun g => (part g).set) groups_disjoint (Rect.biUnion_part part_dvd) f,
    bigSep_univ_equiv (numbering.trans perm), bigSep_univ_prod]
  rfl

/-- The three arrays are the thirty-two pieces. -/
theorem pieces (d : Dev nD) (fx fo : S12288x6272.Idx → Elt F .f32) :
    (iprop((iLoc d ↦{fullShare} (table (F := F))) ∗ (xLoc d ↦{fullShare} fx) ∗ (oLoc d ↦{fullShare} fo)) : sProp 𝕄)
      = bigSep Finset.univ (piece d fx fo) := by
  have hi : (iLoc d ↦{fullShare} (table (F := F)) : sProp 𝕄) = bigSep Finset.univ fun w : Fin 32 => iLoc d ↦{tq w} (table (F := F)) :=
    Transfers.pointsTo_deal Finset.univ Finset.univ_nonempty fullShare
  rw [hi, x_groups, o_groups, ← bigSep_sep', ← bigSep_sep']
  refine bigSep_congr fun w _ => ?_
  rw [← bigSep_sep']

/-- The pieces by SparseCore and subcore. -/
theorem pieces_tasks (d : Dev nD) (fx fo : S12288x6272.Idx → Elt F .f32) :
    (bigSep Finset.univ (piece d fx fo) : sProp 𝕄)
      = bigSep Finset.univ fun c : Fin τ.nSC => bigSep Finset.univ fun i : Fin τ.nSub => piece d fx fo (widOf c i) := by
  rw [bigSep_univ_equiv tasks, bigSep_univ_prod]
  rfl

end Cert.Proof.Copy

end
-- ==== Proof.Body.lean ====
/-
  One task from its start to its end: the steps of the module on tasks, in the program's order.
-/
module
public import proofs.«01_k».proof.Proof.Tile
public import Idealize.ShloMosaic.Lib.Tactic.Stretches
@[expose] public section

noncomputable section

namespace Cert.Proof.Copy

open Cert.KernelIdeal Cert.KernelIdeal.Gen
open Cert.Proof.Table Cert.Proof.Words

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)

set_option maxHeartbeats 8000000 in
/-- The task on one vector subcore: it fetches the table, reads its twelve words, issues its twelve copies and waits for
them. It ends with its groups of the result at the permuted array. -/
theorem tile_body (q : PosShare TreeShare) (O : CellTallies nD τ sig (HIx 1)) (W : Waits sig (HIx 1)) (fs : Buf (Elt F) ((tile d L).loc cc0_scratch0))
    (fx fo : S12288x6272.Idx → Elt F .f32) :
    iprop(Transfers.MayWaits (tile d L) (default : HIx 1) O ∗ ((iV).view.loc (tile d L) ↦{q} (table (F := F))) ∗ bigSep Finset.univ (groupIn d (wid L) fx fo)
        ∗ ((sV).view.loc (tile d L) ↦{fullShare} fs)
        ∗ semVal (tile d L, .dma cc0_scoped0.sem) 0 ∗ semVal (tile d L, .dma cc0_scratch1.sem) 0 ∗ owes (tile d L) O W)
      ⊢ wp frame (wpE (defs₀ (F := F)) 𝒱₀ (tile d L) none) Set.univ
          (cc0_k L xV (Memref.isWhole_whole _) iV (Memref.isWhole_whole _) oV (Memref.isWhole_whole _) sV (Memref.isWhole_whole _) cc0_scratch1 cc0_scoped0)
          fun _ => iprop(((iV).view.loc (tile d L) ↦{q} (table (F := F))) ∗ bigSep Finset.univ (groupIn d (wid L) fx (permuted fx))
            ∗ (∃ f, (sV).view.loc (tile d L) ↦{fullShare} f)
            ∗ semVal (tile d L, .dma cc0_scoped0.sem) 0 ∗ semVal (tile d L, .dma cc0_scratch1.sem) 0 ∗ owing d L O W) := by
  sl_unfold [cc0_k]
  iintro ⟨#Hmw, Hi, HG, Hs, HsemA, HsemB, HO⟩
  sl_exec
  have h0 : tile_body.sl.v36 d L fs = lit0 (gix (wid L) 0) := by
    delta tile_body.sl.v36; sl_open_run; sl_open_pay; exact word_at d L 0 (k0_off1_eq L) _ fs
  have c0 : k0_chk1 (tile_body.sl.v36 d L fs) := h0 ▸ word_ok _
  sl_exec
  have h1 : tile_body.sl.v70 d L fs = lit0 (gix (wid L) 1) := by
    delta tile_body.sl.v70; sl_open_run; sl_open_pay; exact word_at d L 1 (k0_off2_eq L) _ fs
  have c1 : k0_chk2 (tile_body.sl.v70 d L fs) := h1 ▸ word_ok _
  sl_exec
  have h2 : tile_body.sl.v104 d L fs = lit0 (gix (wid L) 2) := by
    delta tile_body.sl.v104; sl_open_run; sl_open_pay; exact word_at d L 2 (k0_off3_eq L) _ fs
  have c2 : k0_chk3 (tile_body.sl.v104 d L fs) := h2 ▸ word_ok _
  sl_exec
  have h3 : tile_body.sl.v138 d L fs = lit0 (gix (wid L) 3) := by
    delta tile_body.sl.v138; sl_open_run; sl_open_pay; exact word_at d L 3 (k0_off4_eq L) _ fs
  have c3 : k0_chk4 (tile_body.sl.v138 d L fs) := h3 ▸ word_ok _
  sl_exec
  have h4 : tile_body.sl.v172 d L fs = lit0 (gix (wid L) 4) := by
    delta tile_body.sl.v172; sl_open_run; sl_open_pay; exact word_at d L 4 (k0_off5_eq L) _ fs
  have c4 : k0_chk5 (tile_body.sl.v172 d L fs) := h4 ▸ word_ok _
  sl_exec
  have h5 : tile_body.sl.v206 d L fs = lit0 (gix (wid L) 5) := by
    delta tile_body.sl.v206; sl_open_run; sl_open_pay; exact word_at d L 5 (k0_off6_eq L) _ fs
  have c5 : k0_chk6 (tile_body.sl.v206 d L fs) := h5 ▸ word_ok _
  sl_exec
  have h6 : tile_body.sl.v240 d L fs = lit0 (gix (wid L) 6) := by
    delta tile_body.sl.v240; sl_open_run; sl_open_pay; exact word_at d L 6 (k0_off7_eq L) _ fs
  have c6 : k0_chk7 (tile_body.sl.v240 d L fs) := h6 ▸ word_ok _
  sl_exec
  have h7 : tile_body.sl.v274 d L fs = lit0 (gix (wid L) 7) := by
    delta tile_body.sl.v274; sl_open_run; sl_open_pay; exact word_at d L 7 (k0_off8_eq L) _ fs
  have c7 : k0_chk8 (tile_body.sl.v274 d L fs) := h7 ▸ word_ok _
  sl_exec
  have h8 : tile_body.sl.v308 d L fs = lit0 (gix (wid L) 8) := by
    delta tile_body.sl.v308; sl_open_run; sl_open_pay; exact word_at d L 8 (k0_off9_eq L) _ fs
  have c8 : k0_chk9 (tile_body.sl.v308 d L fs) := h8 ▸ word_ok _
  sl_exec
  have h9 : tile_body.sl.v342 d L fs = lit0 (gix (wid L) 9) := by
    delta tile_body.sl.v342; sl_open_run; sl_open_pay; exact word_at d L 9 (k0_off10_eq L) _ fs
  have c9 : k0_chk10 (tile_body.sl.v342 d L fs) := h9 ▸ word_ok _
  sl_exec
  have h10 : tile_body.sl.v376 d L fs = lit0 (gix (wid L) 10) := by
    delta tile_body.sl.v376; sl_open_run; sl_open_pay; exact word_at d L 10 (k0_off11_eq L) _ fs
  have c10 : k0_chk11 (tile_body.sl.v376 d L fs) := h10 ▸ word_ok _
  sl_exec
  have h11 : tile_body.sl.v410 d L fs = lit0 (gix (wid L) 11) := by
    delta tile_body.sl.v410; sl_open_run; sl_open_pay; exact word_at d L 11 (k0_off12_eq L) _ fs
  have c11 : k0_chk12 (tile_body.sl.v410 d L fs) := h11 ▸ word_ok _
  sl_exec
  imod (inFlight_start d L fx) $$ HsemB with HB
  ihave HG := (Entails.of_eq (Transfers.bigSep_pending_zero (Lvl := ℕ) (groupIn d (wid L) fx fo))) $$ HG
  ihave HO := (owing_start d L O W _) $$ HO
  iapply (issue d L 0 (off_src h0) (off_dst 0) _ _ fx fo) $$ [HG HB]; · (isplitl [HG]; · iexact HG); iexact HB
  iintro ⟨HG, HB⟩
  sl_exec
  iapply (issue d L 1 (off_src h1) (off_dst 1) _ _ fx fo) $$ [HG HB]; · (isplitl [HG]; · iexact HG); iexact HB
  iintro ⟨HG, HB⟩
  sl_exec
  iapply (issue d L 2 (off_src h2) (off_dst 2) _ _ fx fo) $$ [HG HB]; · (isplitl [HG]; · iexact HG); iexact HB
  iintro ⟨HG, HB⟩
  sl_exec
  iapply (issue d L 3 (off_src h3) (off_dst 3) _ _ fx fo) $$ [HG HB]; · (isplitl [HG]; · iexact HG); iexact HB
  iintro ⟨HG, HB⟩
  sl_exec
  iapply (issue d L 4 (off_src h4) (off_dst 4) _ _ fx fo) $$ [HG HB]; · (isplitl [HG]; · iexact HG); iexact HB
  iintro ⟨HG, HB⟩
  sl_exec
  iapply (issue d L 5 (off_src h5) (off_dst 5) _ _ fx fo) $$ [HG HB]; · (isplitl [HG]; · iexact HG); iexact HB
  iintro ⟨HG, HB⟩
  sl_exec
  iapply (issue d L 6 (off_src h6) (off_dst 6) _ _ fx fo) $$ [HG HB]; · (isplitl [HG]; · iexact HG); iexact HB
  iintro ⟨HG, HB⟩
  sl_exec
  iapply (issue d L 7 (off_src h7) (off_dst 7) _ _ fx fo) $$ [HG HB]; · (isplitl [HG]; · iexact HG); iexact HB
  iintro ⟨HG, HB⟩
  sl_exec
  iapply (issue d L 8 (off_src h8) (off_dst 8) _ _ fx fo) $$ [HG HB]; · (isplitl [HG]; · iexact HG); iexact HB
  iintro ⟨HG, HB⟩
  sl_exec
  iapply (issue d L 9 (off_src h9) (off_dst 9) _ _ fx fo) $$ [HG HB]; · (isplitl [HG]; · iexact HG); iexact HB
  iintro ⟨HG, HB⟩
  sl_exec
  iapply (issue d L 10 (off_src h10) (off_dst 10) _ _ fx fo) $$ [HG HB]; · (isplitl [HG]; · iexact HG); iexact HB
  iintro ⟨HG, HB⟩
  sl_exec
  iapply (issue d L 11 (off_src h11) (off_dst 11) _ _ fx fo) $$ [HG HB]; · (isplitl [HG]; · iexact HG); iexact HB
  iintro ⟨HG, HB⟩
  sl_exec
  iapply (await d L 0 (by decide) _ _ fx O W) $$ [HB HO]; · (isplitl [HB]; · iexact HB); (isplitl [HO]; · iexact HO); iexact Hmw
  iintro ⟨HB, HO⟩
  sl_exec
  iapply (await d L 1 (by decide) _ _ fx O W) $$ [HB HO]; · (isplitl [HB]; · iexact HB); (isplitl [HO]; · iexact HO); iexact Hmw
  iintro ⟨HB, HO⟩
  sl_exec
  iapply (await d L 2 (by decide) _ _ fx O W) $$ [HB HO]; · (isplitl [HB]; · iexact HB); (isplitl [HO]; · iexact HO); iexact Hmw
  iintro ⟨HB, HO⟩
  sl_exec
  iapply (await d L 3 (by decide) _ _ fx O W) $$ [HB HO]; · (isplitl [HB]; · iexact HB); (isplitl [HO]; · iexact HO); iexact Hmw
  iintro ⟨HB, HO⟩
  sl_exec
  iapply (await d L 4 (by decide) _ _ fx O W) $$ [HB HO]; · (isplitl [HB]; · iexact HB); (isplitl [HO]; · iexact HO); iexact Hmw
  iintro ⟨HB, HO⟩
  sl_exec
  iapply (await d L 5 (by decide) _ _ fx O W) $$ [HB HO]; · (isplitl [HB]; · iexact HB); (isplitl [HO]; · iexact HO); iexact Hmw
  iintro ⟨HB, HO⟩
  sl_exec
  iapply (await d L 6 (by decide) _ _ fx O W) $$ [HB HO]; · (isplitl [HB]; · iexact HB); (isplitl [HO]; · iexact HO); iexact Hmw
  iintro ⟨HB, HO⟩
  sl_exec
  iapply (await d L 7 (by decide) _ _ fx O W) $$ [HB HO]; · (isplitl [HB]; · iexact HB); (isplitl [HO]; · iexact HO); iexact Hmw
  iintro ⟨HB, HO⟩
  sl_exec
  iapply (await d L 8 (by decide) _ _ fx O W) $$ [HB HO]; · (isplitl [HB]; · iexact HB); (isplitl [HO]; · iexact HO); iexact Hmw
  iintro ⟨HB, HO⟩
  sl_exec
  iapply (await d L 9 (by decide) _ _ fx O W) $$ [HB HO]; · (isplitl [HB]; · iexact HB); (isplitl [HO]; · iexact HO); iexact Hmw
  iintro ⟨HB, HO⟩
  sl_exec
  iapply (await d L 10 (by decide) _ _ fx O W) $$ [HB HO]; · (isplitl [HB]; · iexact HB); (isplitl [HO]; · iexact HO); iexact Hmw
  iintro ⟨HB, HO⟩
  sl_exec
  iapply (await_last d L _ _ fx O W) $$ [HB HO]; · (isplitl [HB]; · iexact HB); (isplitl [HO]; · iexact HO); iexact Hmw
  iintro ⟨HD, HsemB, HO⟩
  sl_exec
  sl_step
  isplitl [Hi]; · iexact Hi
  isplitl [HD]; · iexact HD
  isplitl [Hs]; · iexists _; iexact Hs
  isplitl [HsemA]; · iexact HsemA
  isplitl [HsemB]; · iexact HsemB
  iexact HO

end Cert.Proof.Copy

end
-- ==== Proof.Launch.lean ====
/-
  The run of the whole program.

  The TensorCore writes the table and the argument's `[12288, 6272]` form, deals the three arrays to the thirty-two tasks,
  waits for them, and writes the result back in the argument's shape. The tasks' bodies are `tile_body`'s. At the end every
  semaphore counter is at zero (`run_main`).
-/
module
public import proofs.«01_k».proof.Proof.Split
public import proofs.«01_k».proof.Proof.Body
@[expose] public section

noncomputable section

namespace Cert.Proof.Copy

open Cert.KernelIdeal Cert.KernelIdeal.Gen
open Cert.Proof.Table

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

variable (m : (ℓ : Loc nD τ sig) → Buf (Elt F) ℓ) (ρ : Dev nD → PrngReg)

/-! ## The values -/

abbrev aLoc (d : Dev nD) : Loc nD τ sig := (SparseCore.T d).loc main_arg0
/-- The program's result. -/
abbrev rLoc (d : Dev nD) : Loc nD τ sig := (SparseCore.T d).loc main_v2

/-- The argument as rows, and the result: the permuted rows in the argument's shape. -/
def rows (d : Dev nD) : S12288x6272.Idx → Elt F .f32 :=
  shapeCast S12288x6272 (m (aLoc d)) shapeCasts_S2x768x224x224_S12288x6272
/-- What the program leaves in its result: the permuted rows, in the argument's shape. -/
def result (d : Dev nD) : S2x768x224x224.Idx → Elt F .f32 :=
  shapeCast S2x768x224x224 (permuted (rows m d)) shapeCasts_S12288x6272_S2x768x224x224

/-! ## What the handshakes carry -/

/-- Task `(c, i)`'s piece before and after it ran. -/
abbrev before (d : Dev nD) (c : Fin τ.nSC) (i : Fin τ.nSub) : sProp 𝕄 := piece d (rows m d) (m (oLoc d)) (widOf c i)
/-- What a task hands back: its groups of the result hold the permuted rows. -/
abbrev after (d : Dev nD) (c : Fin τ.nSC) (i : Fin τ.nSub) : sProp 𝕄 := piece d (rows m d) (permuted (rows m d)) (widOf c i)

/-- A SparseCore takes its tasks' pieces, and each task its own; they bring them back with the result's groups written. -/
def P : (K (F := F)).Pay (nD := nD) (Val := Elt F) (Name := ℕ) (U := UU) where
  st := fun q d c => match q with | 0 => bigSep Finset.univ fun i : Fin ((K (F := F)).nSub 0) => before m d ((K (F := F)).core 0 c) ((K (F := F)).sub 0 i)
  dn := fun q d c => match q with | 0 => bigSep Finset.univ fun i : Fin ((K (F := F)).nSub 0) => after m d ((K (F := F)).core 0 c) ((K (F := F)).sub 0 i)
  go := fun q d c i => match q with | 0 => before m d ((K (F := F)).core 0 c) ((K (F := F)).sub 0 i)
  td := fun q d c i => match q with | 0 => after m d ((K (F := F)).core 0 c) ((K (F := F)).sub 0 i)
  x := fun _ _ => iprop(emp)

/-- What the handshakes carry can be kept by the launch. -/
instance P_storable : (P (F := F) m).IsStorable where
  st q d c := match q with
    | 0 => (inferInstance : BI.Storable (upEmb : UEmb _ 𝕄)
      (bigSep Finset.univ fun i : Fin ((K (F := F)).nSub 0) => before m d ((K (F := F)).core 0 c) ((K (F := F)).sub 0 i)))
  dn q d c := match q with
    | 0 => (inferInstance : BI.Storable (upEmb : UEmb _ 𝕄)
      (bigSep Finset.univ fun i : Fin ((K (F := F)).nSub 0) => after m d ((K (F := F)).core 0 c) ((K (F := F)).sub 0 i)))
  go q d c i := match q with
    | 0 => (inferInstance : BI.Storable (upEmb : UEmb _ 𝕄) (before m d ((K (F := F)).core 0 c) ((K (F := F)).sub 0 i)))
  td q d c i := match q with
    | 0 => (inferInstance : BI.Storable (upEmb : UEmb _ 𝕄) (after m d ((K (F := F)).core 0 c) ((K (F := F)).sub 0 i)))

/-- A SparseCore's arrays are its sixteen tasks' pieces, and the pieces handed back are its arrays. -/
theorem vecSplit : (K (F := F)).VecSplit' (P m) 0 := by
  intro d c
  show (bigSep Finset.univ fun i : Fin ((K (F := F)).nSub 0) => before m d ((K (F := F)).core 0 c) ((K (F := F)).sub 0 i)) ⊢ |={Set.univ}=> iprop(
      (bigSep Finset.univ fun i : Fin ((K (F := F)).nSub 0) => before m d ((K (F := F)).core 0 c) ((K (F := F)).sub 0 i))
      ∗ ((bigSep Finset.univ fun i : Fin ((K (F := F)).nSub 0) => after m d ((K (F := F)).core 0 c) ((K (F := F)).sub 0 i))
        -∗ bigSep Finset.univ fun i : Fin ((K (F := F)).nSub 0) => after m d ((K (F := F)).core 0 c) ((K (F := F)).sub 0 i)))
  iintro H; imodintro
  isplitl [H]; · iexact H
  iintro H; iexact H

/-! ## The task's obligation -/

section Tile

variable (d : Dev nD) (L : grid0.Coords)

/-- The semaphore of a task's fetch of the table, and that of its copies. -/
abbrev tableCell : GSem nD τ sig := (tile d L, .dma cc0_scoped0.sem)
abbrev copyCell : GSem nD τ sig := (tile d L, .dma cc0_scratch1.sem)

/-- The two semaphores the task uses are among the subcore's own. -/
theorem ownSems0_tile :
    (ownSems0 (tile d L) : sProp 𝕄)
      = iprop(semVal (tableCell d L) 0 ∗ semVal (copyCell d L) 0
          ∗ bigSep (((ownCells (tile d L)).erase (tableCell d L)).erase (copyCell d L)) fun g => semVal g 0) := by
  unfold SparseCore.Cfg.ownSems0
  rw [SparseCore.bigSep_erase' ((mem_ownCells (g := tableCell d L)).mpr ⟨rfl, by
      show (SemLoc.dma cc0_scoped0.sem : SemLoc sig).isScoped .scVector = true; decide⟩),
    SparseCore.bigSep_erase' (Finset.mem_erase.mpr ⟨by simp [tableCell, copyCell]; decide, (mem_ownCells (g := copyCell d L)).mpr ⟨rfl, by
      show (SemLoc.dma cc0_scratch1.sem : SemLoc sig).isScoped .scVector = true; decide⟩⟩)]

/-- The scratch buffer is among the subcore's own. -/
theorem ownBufs_tile :
    (ownBufs (tile d L) : sProp 𝕄)
      = iprop((∃ f, (tile d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

end Tile

variable [FloatOps F]

/-- The task, from what the launch gives its subcore. -/
theorem tile_task (d : Dev nD) (L : grid0.Coords) (O : CellTallies nD τ sig (HIx 1)) (W : Waits sig (HIx 1)) (hO : ∀ g, O g none = 0) :
    iprop(levAts (K (F := F)).L (K (F := F)).lev ∗ emp ∗ before m d (cV L) (jV L)
        ∗ scopedBufs (tile d L) ∗ scopedSems0 (tile d L) ∗ owes (tile d L) O W)
      ⊢ wp frame (wpE (defs₀ (F := F)) 𝒱₀ (tile d L) none) Set.univ
          (cc0_k L xV (Memref.isWhole_whole _) iV (Memref.isWhole_whole _) oV (Memref.isWhole_whole _) sV (Memref.isWhole_whole _) cc0_scratch1 cc0_scoped0)
          fun _ => iprop(after m d (cV L) (jV L) ∗ scopedBufs (tile d L) ∗ scopedSems0 (tile d L)
            ∗ ∃ W', ⌜∀ p ∈ W', p ∈ W ∨ p.2 = none⌝ ∗ owes (tile d L) O W') := by
  rw [(K (F := F)).scopedBufs_V facts d (cV L) (jV L), SparseCore.Cfg.scopedSems0_V (Val := Elt F) d (cV L) (jV L), ownSems0_tile, ownBufs_tile]
  iintro ⟨#Hlev, -, ⟨Hi, HG⟩, ⟨⟨%fs, Hs⟩, Hbufs⟩, ⟨HsemA, HsemB, Hsems⟩, HO⟩
  ihave #Hmw := ((K (F := F)).mayWaits_none (thr := tile d L) hO) $$ Hlev
  iapply (wp_wand frame _ _) $$ [Hi HG Hs HsemA HsemB HO]
  · iapply (tile_body d L (tq (wid L)) O W fs (rows m d) (m (oLoc d))) $$ [Hi HG Hs HsemA HsemB HO]
    isplitr; · iexact Hmw
    isplitl [Hi]; · iexact Hi
    isplitl [HG]; · iexact HG
    isplitl [Hs]; · iexact Hs
    isplitl [HsemA]; · iexact HsemA
    isplitl [HsemB]; · iexact HsemB
    iexact HO
  iintro %_ ⟨Hi, HG, Hs, HsemA, HsemB, HO⟩
  isplitl [Hi HG]
  · isplitl [Hi]; · iexact Hi
    iexact HG
  isplitl [Hs Hbufs]
  · isplitl [Hs]; · iexact Hs
    iexact Hbufs
  isplitl [HsemA HsemB Hsems]
  · isplitl [HsemA]; · iexact HsemA
    isplitl [HsemB]; · iexact HsemB
    iexact Hsems
  unfold owing
  iexact HO

/-- The grid position of a SparseCore and a subcore. -/
def coords (c : Fin (grid0.bound 0)) (s : Fin (grid0.bound 1)) : grid0.Coords :=
  fun | 0 => c | 1 => s | ⟨_ + 2, h⟩ => absurd h (Nat.not_lt.2 (Nat.le_add_left _ _))

/-- The task that a vector subcore runs. -/
theorem defs₀_vector (c : Fin τ.nSC) (s : Fin τ.nSub) :
    defs₀ (F := F) (.scVector c s) 0 ()
      = SparseCore.onTile hcore0 hsub0 (fun c s => cc0_k (coords c s) xV (Memref.isWhole_whole _) iV (Memref.isWhole_whole _) oV (Memref.isWhole_whole _)
          sV (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (coords ⟨_, hci.1⟩ ⟨_, hci.2⟩) O W hO).trans (wp_mono frame _ _ fun _ => obl_post)

/-! ## The launch element of the certificate's ghost state -/

/-- The handshakes' rounds at their start, and no transfer. -/
def u₀ : UU := (initOf (K (F := F)).hsCells (K (F := F)).hsToks, 1)

omit [FloatOps F] in
/-- A product of nothing, over any range, is nothing. -/
theorem no_pieces {I : Type} (s : Finset I) : (bigSep s fun _ => iprop(emp)) = (iprop(emp) : sProp 𝕄) := bigSep_emp_const s

/-- The ghost state at the launch gives the handshakes' rounds and, for each thread, the transfers' counters. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_pieces]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_pieces]
  iempintro

/-! ## @main on the TensorCore -/

/-- The program's argument. -/
abbrev a' : DevRef τ sig := Proc.devRef .tc (main_arg0 : Ref sig .tc)
/-- The program's other arrays: the table, the `[12288, 6272]` argument and result, and the result in the argument's shape. -/
abbrev i' : DevRef τ sig := Proc.devRef .tc (main_c : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The host operations: the table's constant, the argument's reshape, the result's reshape. -/
abbrev opTable : HloOp τ sig (Elt F) := StableHlo.nullary main_c (fun i => lit0 (S384.rowMajor i))
abbrev opIn : HloOp τ sig (Elt F) :=
  StableHlo.reshape main_arg0 main_v0 (rfl : (.f32 : EltTy) = .f32) shapeCasts_S2x768x224x224_S12288x6272
abbrev opOut : HloOp τ sig (Elt F) :=
  StableHlo.reshape main_v1 main_v2 (rfl : (.f32 : EltTy) = .f32) shapeCasts_S12288x6272_S2x768x224x224

/-- The TensorCore's arrays. -/
abbrev arrays : Finset (DevRef τ sig) := {a', i', x', o', r'}

/-- The TensorCore's arrays, one by one. -/
theorem held_arrays (d : Dev nD) (W : Valuation τ sig (Elt F)) :
    (held (SparseCore.T d) arrays W : sProp 𝕄)
      = iprop((aLoc d ↦{fullShare} W a') ∗ (iLoc d ↦{fullShare} W i') ∗ (xLoc d ↦{fullShare} W x') ∗ (oLoc d ↦{fullShare} W o') ∗ rLoc d ↦{fullShare} W r') := by
  unfold held arrays
  rw [SparseCore.bigSep_insert' (by decide), SparseCore.bigSep_insert' (by decide), SparseCore.bigSep_insert' (by decide),
    SparseCore.bigSep_insert' (by decide), bigSep_singleton]

/-- The same, of the buffers that the launch gives the TensorCore. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (iLoc d ↦{fullShare} W main_c) ∗ (xLoc d ↦{fullShare} W main_v0) ∗ (oLoc d ↦{fullShare} W main_v1)
          ∗ rLoc d ↦{fullShare} W main_v2) := by
  unfold unscopedBufs
  rw [show (Finset.univ.filter fun b : Ref sig .tc => ¬ b.isScoped) = {main_arg0, main_c, main_v0, main_v1, main_v2} by decide,
    SparseCore.bigSep_insert' (by decide), SparseCore.bigSep_insert' (by decide), SparseCore.bigSep_insert' (by decide),
    SparseCore.bigSep_insert' (by decide), bigSep_singleton]

/-- The arrays' contents at the launch, with the table and the rows written, and after the call. -/
def V0 (d : Dev nD) : Valuation τ sig (Elt F) := fun b => m (d, b)
/-- The arrays' contents when the SparseCore call starts, and when it has ended. -/
def V2 (d : Dev nD) : Valuation τ sig (Elt F) := (opIn (F := F)).result ((opTable (F := F)).result (V0 m d))
def V3 (d : Dev nD) : Valuation τ sig (Elt F) := Function.update (V2 m d) o' (permuted (rows m d))

/-- The launch's buffers are the arrays at their first contents. -/
theorem unscoped_held (d : Dev nD) : (unscopedBufs d (fun b => m ((SparseCore.T d).loc b)) : sProp 𝕄) = held (SparseCore.T d) arrays (V0 m d) := by
  rw [unscopedBufs_eq, held_arrays]; rfl

/-- The table's constant changes the table alone. -/
theorem V1_of_ne (d : Dev nD) {b : DevRef τ sig} (h : b ∉ ({i'} : Finset (DevRef τ sig))) : (opTable (F := F)).result (V0 m d) b = V0 m d b :=
  (opTable (F := F)).result_of_not_mem (V0 m d) h
/-- The argument's reshape changes the reshaped array alone. -/
theorem V2_of_ne (d : Dev nD) {b : DevRef τ sig} (h : b ∉ ({x'} : Finset (DevRef τ sig))) : V2 m d b = (opTable (F := F)).result (V0 m d) b :=
  (opIn (F := F)).result_of_not_mem _ h

/-- The arrays at the call: the argument and the result as they were, the table, the argument's rows. -/
theorem V2_a (d : Dev nD) : V2 m d a' = m (aLoc d) := (V2_of_ne m d (by decide)).trans (V1_of_ne m d (by decide))
theorem V2_o (d : Dev nD) : V2 m d o' = m (oLoc d) := (V2_of_ne m d (by decide)).trans (V1_of_ne m d (by decide))
theorem V2_i (d : Dev nD) : V2 m d i' = table (F := F) := (V2_of_ne m d (by decide)).trans (StableHlo.nullary_result main_c _ _ _)
theorem V2_x (d : Dev nD) : V2 m d x' = rows m d := by
  refine (StableHlo.reshape_result main_arg0 main_v0 _ _ _ _ _).trans ?_
  exact congrArg (fun f => shapeCast S12288x6272 f shapeCasts_S2x768x224x224_S12288x6272) (V1_of_ne m d (b := a') (by decide))

/-- The call changes its result alone, and leaves the permuted rows there. -/
theorem V3_of_ne (d : Dev nD) {b : DevRef τ sig} (h : b ≠ o') : V3 m d b = V2 m d b := Function.update_of_ne h _ _
theorem V3_o (d : Dev nD) : V3 m d o' = permuted (rows m d) := Function.update_self _ _ _

/-- The arrays at the call, one by one. -/
theorem held_V2 (d : Dev nD) :
    (held (SparseCore.T d) arrays ((opIn (F := F)).result ((opTable (F := F)).result (V0 m d))) : sProp 𝕄)
      = iprop((aLoc d ↦{fullShare} m (aLoc d)) ∗ (iLoc d ↦{fullShare} (table (F := F))) ∗ (xLoc d ↦{fullShare} rows m d)
          ∗ (oLoc d ↦{fullShare} m (oLoc d)) ∗ rLoc d ↦{fullShare} V2 m d r') := by
  refine (held_arrays d (V2 m d)).trans ?_
  rw [V2_a, V2_i, V2_x, V2_o]

/-- What @main leaves the claim: the argument as it was, and the result. -/
abbrev FIN (d : Dev nD) : sProp 𝕄 := iprop((aLoc d ↦{fullShare} m (aLoc d)) ∗ rLoc d ↦{fullShare} result m d)

/-- The last reshape leaves the argument as it was. -/
theorem out_a (d : Dev nD) : (opOut (F := F)).result (V3 m d) a' = m (aLoc d) :=
  ((opOut (F := F)).result_of_not_mem _ (show a' ∉ ({r'} : Finset (DevRef τ sig)) by decide)).trans ((V3_of_ne m d (by decide)).trans (V2_a m d))
/-- The last reshape leaves the program's result. -/
theorem out_r (d : Dev nD) : (opOut (F := F)).result (V3 m d) r' = result m d := by
  refine (StableHlo.reshape_result main_v1 main_v2 _ _ _ _ _).trans ?_
  exact congrArg (fun f => shapeCast S2x768x224x224 f shapeCasts_S12288x6272_S2x768x224x224) (V3_o m d)

/-- The arrays at the end, one by one. -/
theorem held_out (d : Dev nD) :
    (held (SparseCore.T d) arrays ((opOut (F := F)).result (V3 m d)) : sProp 𝕄)
      = iprop((aLoc d ↦{fullShare} m (aLoc d)) ∗ (iLoc d ↦{fullShare} (opOut (F := F)).result (V3 m d) i')
          ∗ (xLoc d ↦{fullShare} (opOut (F := F)).result (V3 m d) x') ∗ (oLoc d ↦{fullShare} (opOut (F := F)).result (V3 m d) o')
          ∗ rLoc d ↦{fullShare} result m d) := by
  refine (held_arrays d _).trans ?_
  rw [out_a, out_r]

/-- Each host operation touches the TensorCore's arrays alone. -/
theorem hTable : (opTable (F := F)).bufs ⊆ arrays := show ({i'} : Finset (DevRef τ sig)) ⊆ arrays by decide
theorem hIn : (opIn (F := F)).bufs ⊆ arrays := show ({a', x'} : Finset (DevRef τ sig)) ⊆ arrays by decide
theorem hOut : (opOut (F := F)).bufs ⊆ arrays := show ({o', r'} : Finset (DevRef τ sig)) ⊆ arrays by decide

/-- What the call takes for the two SparseCores, and what it hands back: the three arrays. -/
theorem st0_eq (d : Dev nD) : (bigSep Finset.univ fun c : Fin ((K (F := F)).nCore 0) => (P m).st 0 d c)
    = iprop((iLoc d ↦{fullShare} (table (F := F))) ∗ (xLoc d ↦{fullShare} rows m d) ∗ (oLoc d ↦{fullShare} m (oLoc d))) :=
  ((pieces d (rows m d) (m (oLoc d))).trans (pieces_tasks d _ _)).symm
/-- What the two SparseCores hand back, as one separating product. -/
theorem dn0_eq (d : Dev nD) : (bigSep Finset.univ fun c : Fin ((K (F := F)).nCore 0) => (P m).dn 0 d c)
    = iprop((iLoc d ↦{fullShare} (table (F := F))) ∗ (xLoc d ↦{fullShare} rows m d) ∗ (oLoc d ↦{fullShare} permuted (rows m d))) :=
  ((pieces d (rows m d) (permuted (rows m d))).trans (pieces_tasks d _ _)).symm

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTable) (S := arrays) hTable (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opIn) (S := arrays) hIn (V := (opTable (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha, Hi, Hx, Ho, Hr⟩
  iapply ((K (F := F)).wp_run (D (F := F)) 𝒱 (EH := EH) (P := P m) κ d 0) $$ [Hst Ha Hi Hx Ho Hb Hr Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  iapply (wp_hlo_within 𝒱 (SparseCore.T d) none Set.univ (op := opOut) (S := arrays) hOut (V := V3 m d)) $$ [Hb Ha Hi Hx Ho Hr]
  · isplitl [Hb]; · iexact Hb
    rw [held_arrays, V3_o, V3_of_ne m d (b := a') (by decide), V3_of_ne m d (b := i') (by decide), V3_of_ne m d (b := x') (by decide),
      V3_of_ne m d (b := r') (by decide), V2_a, V2_i, V2_x]
    isplitl [Ha]; · iexact Ha
    isplitl [Hi]; · iexact Hi
    isplitl [Hx]; · iexact Hx
    isplitl [Ho]; · iexact Ho
    iexact Hr
  iintro ⟨Hb, Hheld⟩
  ihave Hh := (Entails.of_eq (held_out m d)) $$ Hheld
  icases Hh with ⟨Ha, -, -, -, Hr⟩
  rw [wp_ret]; imodintro; imodintro
  isplitl [Hst]; · iexact Hst
  isplitr [Hb Hts]
  · isplitl [Ha]; · iexact Ha
    iexact Hr
  isplitl [Hb] <;> iassumption

/-! ## The program's run -/

def fq (d : Dev nD) (s' : Phys nD τ sig (Elt F)) : Prop := s'.mem.mem (aLoc d) = m (aLoc d) ∧ s'.mem.mem (rLoc d) = result m d

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- What the run establishes: the argument is unchanged, the result is `result`, and every semaphore counter is at zero. -/
def QC : PUnit × MemSt nD τ sig (Elt F) → Prop :=
  fun r => (∀ c : Dev nD, r.2.mem (aLoc c) = m (aLoc c) ∧ r.2.mem (rLoc c) = result m c) ∧ r.2.sem = fun _ => 0

/-- Every run of the program ends with the argument as it was, the result at the permuted argument, and every semaphore
counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Reference.lean ====
/-
  What the reference computes: channel `c` of each image of its result is channel `chan c` of the argument (`res_eq`).

  The reference builds its list of channel numbers from 192 group numbers, wraps the negative ones, gathers along the
  channel axis and puts a not-a-number where a channel number is out of range. Its numbers are all in range, so neither
  the wrapping nor the replacement takes place.
-/
module

public import proofs.«01_k».proof.Defs
public import proofs.«01_k».proof.Proof.Gen.ReferenceIdeal
public import proofs.«01_k».proof.Proof.Gen.ReferenceIdeal.Run
public import Idealize.ShloMosaic.Lib.ValueIdxCore
public import Idealize.ShloMosaic.Lib.ReduceAll
public import Idealize.ShloMosaic.Lib.Quiescent

@[expose] public section

noncomputable section

namespace Cert.Proof.Ref

open Cert.ReferenceIdeal Cert.ReferenceIdeal.Gen
open Idealize.ShloMosaic
open Idealize.ShloMosaic.ValueIdx
open Idealize.SL.Sem

variable {F : FTy → Type} [FloatOps F]

/-! ## The channel numbers -/

/-- Every entry of the drawn permutation is a group number. -/
theorem group_lt : ∀ k : Fin 192, (lit0 k).toNat < 192 := by decide +kernel

/-- The channel of the argument that channel `c` of the result is. -/
def chan (c : Fin 768) : Fin 768 :=
  ⟨4 * (lit0 ⟨c.val / 4, by omega⟩).toNat + c.val % 4, by have := group_lt ⟨c.val / 4, by omega⟩; omega⟩

/-- The reference's list of channel numbers, as it computes them. -/
def numbers : IVec S768 32 :=
  shapeCast _ (addi (broadcastInDim S192x4 ![0, 1] bcast_S192x1_S192x4_0_1 (muli (broadcastInDim S192x1 ![0] bcast_S192_S192x1_0
    ((fun i => lit0 (S192.rowMajor i)))) (broadcastInDim S192x1 ![] bcast_S_S192x1 (constantI S_ 32 4#32))))
    (broadcastInDim S192x4 ![0, 1] bcast_S1x4_S192x4_0_1 (broadcastInDim S1x4 ![1] bcast_S4_S1x4_1 (iotaInDim S4 32 0)))) shapeCasts_S192x4_S768

/-- Entry `c` of the list of channel numbers is `chan c`. -/
theorem numbers_eq (i : S768.Idx) : numbers i = BitVec.ofNat 32 (chan (i 0)).val := by
  have hi : (i 0).val < 768 := (i 0).isLt
  have hk : (i 0).val / 4 < 192 := by omega
  have hg := group_lt ⟨(i 0).val / 4, hk⟩
  have e : Shape.reshapeEquiv shapeCasts_S192x4_S768 i = ix2 (⟨(i 0).val / 4, hk⟩ : Fin 192) (⟨(i 0).val % 4, Nat.mod_lt _ (by decide)⟩ : Fin 4) := by
    refine Shape.reshapeEquiv_eq_of_rowMajor _ ?_
    rw [Shape.rowMajor_val_two, Shape.rowMajor_val_one]
    show (i 0).val / 4 * 4 + (i 0).val % 4 = (i 0).val
    omega
  show (addi _ _) (Shape.reshapeEquiv shapeCasts_S192x4_S768 i) = _
  rw [e]
  show lit0 (S192.rowMajor _) * 4#32 + BitVec.ofNat 32 ((i 0).val % 4) = _
  have er : S192.rowMajor (fun a => ⟨(i 0).val / 4, by match a with | 0 => exact hk⟩) = (⟨(i 0).val / 4, hk⟩ : Fin 192) :=
    Fin.ext (Shape.rowMajor_val_one _)
  refine (congrArg (fun r => lit0 r * 4#32 + BitVec.ofNat 32 ((i 0).val % 4)) ((congrArg S192.rowMajor (funext fun a => by
    match a with | 0 => rfl)).trans er)).trans ?_
  apply BitVec.eq_of_toNat_eq
  simp only [BitVec.toNat_add, BitVec.toNat_mul, BitVec.toNat_ofNat, chan]
  omega

/-- A channel number is not negative, and at most 767. -/
theorem number_ok (c : Fin 768) : IntOp.cmpi .slt (BitVec.ofNat 32 c.val) 0#32 = 0#1
    ∧ IntOp.cmpi .sge (BitVec.ofNat 32 c.val) 0#32 = 1#1 ∧ IntOp.cmpi .sle (BitVec.ofNat 32 c.val) 767#32 = 1#1
    ∧ (BitVec.ofNat 32 c.val).toInt.toNat = c.val := by
  revert c; decide +kernel

/-- The numbers with the negative ones wrapped, as the gather's start indices. -/
def starts : IVec S768x1 32 :=
  broadcastInDim S768x1 ![0] bcast_S768_S768x1_0 (select (cmpi .slt numbers (broadcastInDim S768 ![] bcast_S_S768 (constantI S_ 32 0#32)))
    (addi numbers (broadcastInDim S768 ![] bcast_S_S768 (constantI S_ 32 768#32))) numbers)

/-- A list broadcast to one column holds, in each row, the list's entry. -/
theorem column {α : Type} (x : S768.Idx → α) (j : S768x1.Idx) :
    broadcastInDim S768x1 ![0] bcast_S768_S768x1_0 x j = x (ix1 (⟨(j 0).val, idx2_lt0 j⟩ : Fin 768)) :=
  congrArg x (funext fun a => by match a with | 0 => rfl)

/-- The gather's start in row `j` is `chan j`. -/
theorem starts_eq (j : S768x1.Idx) : starts j = BitVec.ofNat 32 (chan ⟨(j 0).val, idx2_lt0 j⟩).val := by
  unfold starts
  rw [column, select_apply]
  have e := numbers_eq (ix1 (⟨(j 0).val, idx2_lt0 j⟩ : Fin 768))
  show Scalar.select (IntOp.cmpi .slt (numbers _) 0#32) (numbers _ + 768#32) (numbers _) = _
  rw [e]
  show Scalar.select (IntOp.cmpi .slt (BitVec.ofNat 32 (chan ⟨(j 0).val, idx2_lt0 j⟩).val) 0#32) _ _ = _
  rw [(number_ok _).1, select_zero]

/-! ## The gather and the replacement -/

/-- The gather's dimension numbers. -/
abbrev dims : GatherDims S2x768x224x224 S768x1 S2x768x224x224 := gather_S2x768x224x224_S768x1_S2x768x224x224_023_1_n_n_1_1_21224224

/-- The gather along the channel axis, read at an index: the operand at the channel the start index names. -/
theorem gather_apply {α : Type} (x : S2x768x224x224.Idx → α) (idx : IVec S768x1 32) (y : S2x768x224x224.Idx) (c : Fin 768)
    (hc : (idx (ix2 (y 1) 0)).toInt.toNat = c.val) :
    Host.gather dims x idx y = x (ix4 (y 0) c (y 2) (y 3)) := by
  unfold Host.gather
  refine congrArg x (funext fun a => Fin.ext ?_)
  show GatherDims.start _ y idx a + GatherDims.batchCoord _ y a + GatherDims.offCoord _ y a = _
  rw [GatherDims.batchCoord_eq_zero _ _ _ List.not_mem_nil, Nat.add_zero]
  match a with
  | 0 => exact (Nat.zero_add _).trans rfl
  | 1 =>
    rw [GatherDims.offCoord_eq_zero _ _ _ (fun h => ((GatherDims.mem_sKept _ _).mp h).1 (List.mem_singleton.mpr rfl)), Nat.add_zero]
    unfold GatherDims.start
    have h1 : (1 : Fin S2x768x224x224.rank) ∈ dims.startIndexMap := List.mem_singleton.mpr rfl
    rw [dif_pos h1]
    have hsi : GatherDims.siIdx dims y
        ⟨List.idxOf (1 : Fin S2x768x224x224.rank) dims.startIndexMap, List.idxOf_lt_length_iff.2 h1⟩ = ix2 (y 1) 0 := by
      funext b; refine Fin.ext ?_
      match b with
      | 0 => rfl
      | 1 => rfl
    rw [hsi]
    refine (congrArg (fun n => min n (768 - 1)) hc).trans ?_
    show min c.val (768 - 1) = c.val
    omega
  | 2 => exact (Nat.zero_add _).trans rfl
  | 3 => exact (Nat.zero_add _).trans rfl

/-- The argument's channels taken in the list's order. -/
def taken {α : Type} (x : S2x768x224x224.Idx → α) : S2x768x224x224.Idx → α := fun i => x (ix4 (i 0) (chan (i 1)) (i 2) (i 3))

/-- Every start index is in range. -/
def inRange : IVec S768x1 1 :=
  andi (cmpi .sge starts (broadcastInDim S768x1 ![] bcast_S_S768x1 (constantI S_ 32 0#32)))
    (cmpi .sle starts (broadcastInDim S768x1 ![0, 1] bcast_S1x1_S768x1_0_1 (broadcastInDim S1x1 ![1] bcast_S1_S1x1_1 (constantI S1 32 767#32))))

/-- Every start is a channel's number, so no entry of the result is masked. -/
theorem inRange_eq (j : S768x1.Idx) : inRange j = 1#1 := by
  show IntOp.andi (IntOp.cmpi .sge (starts j) 0#32) (IntOp.cmpi .sle (starts j) 767#32) = 1#1
  rw [starts_eq, (number_ok _).2.1, (number_ok _).2.2.1]
  rfl

/-- The reference's result. -/
theorem res_eq (m : (ℓ : Loc nD τ sig) → Buf (Elt F) ℓ) (c : Dev nD) :
    Value.res_main_v9 m c = taken (m ((c.tc : Thread nD τ).loc main_arg0)) := by
  show select (broadcastInDim S2x768x224x224 ![1] bcast_S768_S2x768x224x224_1
      (Host.reduce IntOp.andi inRange (constantI S_ 1 1#1) reducesTo_S768x1_S768_d1 h_S_))
    (Host.gather dims (m ((c.tc : Thread nD τ).loc main_arg0)) starts)
    (broadcastInDim S2x768x224x224 ![] bcast_S_S2x768x224x224 (constant S_ .f32 0x7FC00000#32)) = _
  funext i
  rw [select_apply, show broadcastInDim S2x768x224x224 ![1] bcast_S768_S2x768x224x224_1
      (Host.reduce IntOp.andi inRange (constantI S_ 1 1#1) reducesTo_S768x1_S768_d1 h_S_) i = 1#1 from
    Host.reduce_andi_one _ _ _ _ _ rfl inRange_eq, select_one]
  refine gather_apply _ _ _ _ ?_
  rw [starts_eq]
  exact (number_ok _).2.2.2

/-! ## The reference's run -/

/-- `Cert.quiescent_ReferenceIdeal`: the reference declares no semaphore. -/
theorem frame : Cert.quiescent_ReferenceIdeal := fun m ρ _ =>
  (θ_run Cert.ReferenceIdeal.defs _ _).mono (fun r h => ⟨fun c => (h c).2, sem_eq_zero_of_no_sems (by decide) r.2⟩)
    (Value.run (F := Ideal) m ρ)

end Cert.Proof.Ref

end
-- ==== Proof.Value.lean ====
/-
  The kernel's result is the reference's: permuting the groups of thirty-two rows permutes the channels.

  Row `r` of the `[12288, 6272]` form holds an eighth of one channel of one image, so a group of thirty-two rows is four
  consecutive channels, and the table's group for group `192 * b + k` of the result is `192 * b` plus the reference's `k`-th
  group number (`src_eq`).
-/
module

public import proofs.«01_k».proof.Proof.Launch
public import proofs.«01_k».proof.Proof.Reference

@[expose] public section

noncomputable section

namespace Cert.Proof.Value

open Cert.KernelIdeal Cert.KernelIdeal.Gen
open Cert.Proof.Table
open Idealize.ShloMosaic
open Idealize.ShloMosaic.ValueIdx

/-- The kernel's table against the reference's list of group numbers. -/
theorem src_eq : ∀ (b : Fin 2) (k : Fin 192),
    (src ⟨192 * b.val + k.val, by omega⟩).val = 192 * b.val + (Cert.ReferenceIdeal.lit0 k).toNat := by decide +kernel

/-- Where an element of the result stands among the rows. -/
theorem row_of (i : S2x768x224x224.Idx) (r : Fin 12288) (q : Fin 6272)
    (hr : r.val = 8 * (768 * (i 0).val + (i 1).val) + (224 * (i 2).val + (i 3).val) / 6272) (hq : q.val = (224 * (i 2).val + (i 3).val) % 6272) :
    Shape.reshapeEquiv shapeCasts_S12288x6272_S2x768x224x224 i = ix2 r q := by
  refine Shape.reshapeEquiv_eq_of_rowMajor _ ?_
  rw [Shape.rowMajor_val_two, Shape.rowMajor_val_four]
  show r.val * 6272 + q.val = (((i 0).val * 768 + (i 1).val) * 224 + (i 2).val) * 224 + (i 3).val
  omega

/-- Permuting the rows' groups takes the channels in the reference's order. -/
theorem permuted_eq {F : FTy → Type} (x : S2x768x224x224.Idx → Elt F .f32) :
    shapeCast S2x768x224x224 (Copy.permuted (shapeCast S12288x6272 x shapeCasts_S2x768x224x224_S12288x6272)) shapeCasts_S12288x6272_S2x768x224x224
      = Ref.taken x := by
  funext i
  have h0 : (i 0).val < 2 := (i 0).isLt
  have h1 : (i 1).val < 768 := (i 1).isLt
  have h2 : (i 2).val < 224 := (i 2).isLt
  have h3 : (i 3).val < 224 := (i 3).isLt
  have hr : 8 * (768 * (i 0).val + (i 1).val) + (224 * (i 2).val + (i 3).val) / 6272 < 12288 := by omega
  have hk : (i 1).val / 4 < 192 := by omega
  have hs := src_eq ⟨(i 0).val, h0⟩ ⟨(i 1).val / 4, hk⟩
  have hg : (8 * (768 * (i 0).val + (i 1).val) + (224 * (i 2).val + (i 3).val) / 6272) / 32 = 192 * (i 0).val + (i 1).val / 4 := by omega
  show Copy.permuted _ (Shape.reshapeEquiv shapeCasts_S12288x6272_S2x768x224x224 i) = _
  rw [row_of i ⟨_, hr⟩ ⟨_, Nat.mod_lt _ (by decide)⟩ rfl rfl]
  show x (Shape.reshapeEquiv shapeCasts_S2x768x224x224_S12288x6272 (ix2 (Copy.srcRow ⟨_, hr⟩) ⟨_, Nat.mod_lt _ (by decide)⟩)) = x _
  refine congrArg x (Shape.reshapeEquiv_eq_of_rowMajor _ ?_)
  rw [Shape.rowMajor_val_two, Shape.rowMajor_val_four]
  show (((i 0).val * 768 + (4 * (Cert.ReferenceIdeal.lit0 ⟨(i 1).val / 4, hk⟩).toNat + (i 1).val % 4)) * 224 + (i 2).val) * 224 + (i 3).val
    = (32 * (src ⟨(8 * (768 * (i 0).val + (i 1).val) + (224 * (i 2).val + (i 3).val) / 6272) / 32, _⟩).val
        + (8 * (768 * (i 0).val + (i 1).val) + (224 * (i 2).val + (i 3).val) / 6272) % 32) * 6272
      + (224 * (i 2).val + (i 3).val) % 6272
  rw [show src ⟨(8 * (768 * (i 0).val + (i 1).val) + (224 * (i 2).val + (i 3).val) / 6272) / 32, by omega⟩
    = src ⟨192 * (i 0).val + (i 1).val / 4, by omega⟩ from congrArg src (Fin.ext hg)]
  rw [hs]
  show _ = (32 * (192 * (i 0).val + (Cert.ReferenceIdeal.lit0 ⟨(i 1).val / 4, hk⟩).toNat) + _) * 6272 + _
  generalize (Cert.ReferenceIdeal.lit0 ⟨(i 1).val / 4, hk⟩).toNat = p
  omega

end Cert.Proof.Value

end
-- ==== Proof.lean ====
/-
  The proof of `Cert.Claim`. The kernel's run is `Copy.run_main`, stated once for any float values and taken here at
  both; the reference's run and its result are in `Ref`; `Value.permuted_eq` says that the two results are equal.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The program as printed: its text is the idealized program's, whose run holds for any float values. -/
theorem frame_kernel : Cert.quiescent_Kernel := fun m ρ _ =>
  (θ_run Cert.KernelIdeal.defs _ _).mono (fun _ h => ⟨fun c => (h.1 c).1, h.2⟩) (Copy.run_main (F := Bits) m ρ)

/-- The program at the extended reals. -/
theorem frame_kernelIdeal : Cert.quiescent_KernelIdeal := fun m ρ _ =>
  (θ_run Cert.KernelIdeal.defs _ _).mono (fun _ h => ⟨fun c => (h.1 c).1, h.2⟩) (Copy.run_main (F := Ideal) m ρ)

/-- Both end with the argument's channels taken in the reference's order. -/
theorem algebraic : Cert.algebraic_KernelIdeal_ReferenceIdeal := fun m ρ m' ρ' _ hagree =>
  ⟨fun c => Copy.result (F := Ideal) m c,
    (θ_run Cert.KernelIdeal.defs _ _).mono (fun _ h c => ⟨(h.1 c).2, (h.1 c).1⟩) (Copy.run_main (F := Ideal) m ρ),
    (θ_run Cert.ReferenceIdeal.defs _ _).mono
      (fun _ h c => ⟨(h c).1.trans (((Ref.res_eq (F := Ideal) m' c).trans (congrArg Ref.taken (hagree c))).trans (Value.permuted_eq (F := Ideal) _).symm), (h c).2⟩)
      (Cert.ReferenceIdeal.Value.run (F := Ideal) m' ρ')⟩

/-- All five claims. -/
theorem claim : Cert.Claim :=
  ⟨Cert.Kernel.Gen.facts, Cert.KernelIdeal.Gen.facts, Cert.ReferenceIdeal.Gen.facts, frame_kernel, frame_kernelIdeal, Ref.frame, trivial, algebraic⟩

end Cert.Proof

end
